-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x128x512 .f32) (main_arg1 : FVec F S512x512 .f32) (main_arg2 : FVec F S512x512 .f32) (main_arg3 : FVec F S512x512 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Pre_scores_finite_ReferenceIdeal.lean ====
abbrev S2x128x512 : Shape := ⟨3, ![2, 128, 512]⟩
abbrev S512x2048 : Shape := ⟨2, ![512, 2048]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S2x128x512 .f32) (main_arg1 : FVec F S512x2048 .f32) (main_arg2 : FVec F S512x2048 .f32) (main_arg3 : FVec F S512x2048 .f32) (main_arg4 : FVec F S2048x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S2048x128 : Shape := ⟨2, ![2048, 128]⟩
abbrev S4x64x512 : Shape := ⟨3, ![4, 64, 512]⟩
abbrev S3x4x64x512 : Shape := ⟨4, ![3, 4, 64, 512]⟩
abbrev S3x4 : Shape := ⟨2, ![3, 4]⟩
abbrev S256x512 : Shape := ⟨2, ![256, 512]⟩
abbrev S128x64 : Shape := ⟨2, ![128, 64]⟩
abbrev S64x128 : Shape := ⟨2, ![64, 128]⟩
abbrev S128x128 : Shape := ⟨2, ![128, 128]⟩
abbrev S2048 : Shape := ⟨1, ![2048]⟩
abbrev S2048x1 : Shape := ⟨2, ![2048, 1]⟩
abbrev S_ : Shape := ⟨0, ![]⟩
abbrev S64x64 : Shape := ⟨2, ![64, 64]⟩
abbrev S64x512 : Shape := ⟨2, ![64, 512]⟩
abbrev S1x64x512 : Shape := ⟨3, ![1, 64, 512]⟩
abbrev S1x1 : Shape := ⟨2, ![1, 1]⟩
abbrev S1x1x64x512 : Shape := ⟨4, ![1, 1, 64, 512]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S2x128x512, .f32⟩
  | .local _ .vmem, ⟨6, _⟩ => ⟨S2048x128, .f32⟩
  | .local _ .vmem, ⟨7, _⟩ => ⟨S4x64x512, .bf16⟩
  | .local _ .vmem, ⟨8, _⟩ => ⟨S3x4x64x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_62 : BitVec 32 := 1#32
  let v166 : BitVec 32 := Scalar.addi v2 c1_i32_62
  let c4_i32_63 : BitVec 32 := 4#32
  let v167 : BitVec 32 := Scalar.remsi v166 c4_i32_63
  let c1_i32_65 : BitVec 32 := 1#32
  let v168 : BitVec 32 := Scalar.muli v167 c1_i32_65
  let v169 : BitVec 32 := Scalar.addi c0_i32 v168
  v169.toNat
def k0_dev2 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v170 : BitVec 32 := Scalar.addi v2 c2_i32
  let c4_i32_66 : BitVec 32 := 4#32
  let v171 : BitVec 32 := Scalar.remsi v170 c4_i32_66
  let c1_i32_68 : BitVec 32 := 1#32
  let v172 : BitVec 32 := Scalar.muli v171 c1_i32_68
  let v173 : BitVec 32 := Scalar.addi c0_i32_69 v172
  v173.toNat
def k0_dev3 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v174 : BitVec 32 := Scalar.addi v2 c3_i32
  let c4_i32_70 : BitVec 32 := 4#32
  let v175 : BitVec 32 := Scalar.remsi v174 c4_i32_70
  let c1_i32_72 : BitVec 32 := 1#32
  let v176 : BitVec 32 := Scalar.muli v175 c1_i32_72
  let v177 : BitVec 32 := Scalar.addi c0_i32_73 v176
  v177.toNat
def k0_dev4 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_89 : BitVec 32 := 1#32
  let v210 : BitVec 32 := Scalar.addi v2 c1_i32_89
  let c4_i32_90 : BitVec 32 := 4#32
  let v211 : BitVec 32 := Scalar.remsi v210 c4_i32_90
  let c1_i32_98 : BitVec 32 := 1#32
  let v212 : BitVec 32 := Scalar.muli v211 c1_i32_98
  let v213 : BitVec 32 := Scalar.addi c0_i32_99 v212
  v213.toNat
def k0_dev5 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_104 : BitVec 32 := 2#32
  let v222 : BitVec 32 := Scalar.addi v2 c2_i32_104
  let c4_i32_105 : BitVec 32 := 4#32
  let v223 : BitVec 32 := Scalar.remsi v222 c4_i32_105
  let c1_i32_113 : BitVec 32 := 1#32
  let v224 : BitVec 32 := Scalar.muli v223 c1_i32_113
  let v225 : BitVec 32 := Scalar.addi c0_i32_114 v224
  v225.toNat
def k0_dev6 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_119 : BitVec 32 := 3#32
  let v234 : BitVec 32 := Scalar.addi v2 c3_i32_119
  let c4_i32_120 : BitVec 32 := 4#32
  let v235 : BitVec 32 := Scalar.remsi v234 c4_i32_120
  let c1_i32_128 : BitVec 32 := 1#32
  let v236 : BitVec 32 := Scalar.muli v235 c1_i32_128
  let v237 : BitVec 32 := Scalar.addi c0_i32_129 v236
  v237.toNat
def k0_dev7 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_147 : BitVec 32 := 1#32
  let v278 : BitVec 32 := Scalar.addi v2 c1_i32_147
  let c4_i32_148 : BitVec 32 := 4#32
  let v279 : BitVec 32 := Scalar.remsi v278 c4_i32_148
  let c1_i32_156 : BitVec 32 := 1#32
  let v280 : BitVec 32 := Scalar.muli v279 c1_i32_156
  let v281 : BitVec 32 := Scalar.addi c0_i32_157 v280
  v281.toNat
def k0_dev8 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_162 : BitVec 32 := 2#32
  let v290 : BitVec 32 := Scalar.addi v2 c2_i32_162
  let c4_i32_163 : BitVec 32 := 4#32
  let v291 : BitVec 32 := Scalar.remsi v290 c4_i32_163
  let c1_i32_171 : BitVec 32 := 1#32
  let v292 : BitVec 32 := Scalar.muli v291 c1_i32_171
  let v293 : BitVec 32 := Scalar.addi c0_i32_172 v292
  v293.toNat
def k0_dev9 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_177 : BitVec 32 := 3#32
  let v302 : BitVec 32 := Scalar.addi v2 c3_i32_177
  let c4_i32_178 : BitVec 32 := 4#32
  let v303 : BitVec 32 := Scalar.remsi v302 c4_i32_178
  let c1_i32_186 : BitVec 32 := 1#32
  let v304 : BitVec 32 := Scalar.muli v303 c1_i32_186
  let v305 : BitVec 32 := Scalar.addi c0_i32_187 v304
  v305.toNat
def k0_dev10 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_205 : BitVec 32 := 1#32
  let v346 : BitVec 32 := Scalar.addi v2 c1_i32_205
  let c4_i32_206 : BitVec 32 := 4#32
  let v347 : BitVec 32 := Scalar.remsi v346 c4_i32_206
  let c1_i32_214 : BitVec 32 := 1#32
  let v348 : BitVec 32 := Scalar.muli v347 c1_i32_214
  let v349 : BitVec 32 := Scalar.addi c0_i32_215 v348
  v349.toNat
def k0_dev11 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_220 : BitVec 32 := 2#32
  let v358 : BitVec 32 := Scalar.addi v2 c2_i32_220
  let c4_i32_221 : BitVec 32 := 4#32
  let v359 : BitVec 32 := Scalar.remsi v358 c4_i32_221
  let c1_i32_229 : BitVec 32 := 1#32
  let v360 : BitVec 32 := Scalar.muli v359 c1_i32_229
  let v361 : BitVec 32 := Scalar.addi c0_i32_230 v360
  v361.toNat
def k0_dev12 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_235 : BitVec 32 := 3#32
  let v370 : BitVec 32 := Scalar.addi v2 c3_i32_235
  let c4_i32_236 : BitVec 32 := 4#32
  let v371 : BitVec 32 := Scalar.remsi v370 c4_i32_236
  let c1_i32_244 : BitVec 32 := 1#32
  let v372 : BitVec 32 := Scalar.muli v371 c1_i32_244
  let v373 : BitVec 32 := Scalar.addi c0_i32_245 v372
  v373.toNat
def k0_dev13 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_263 : BitVec 32 := 1#32
  let v414 : BitVec 32 := Scalar.addi v2 c1_i32_263
  let c4_i32_264 : BitVec 32 := 4#32
  let v415 : BitVec 32 := Scalar.remsi v414 c4_i32_264
  let c1_i32_272 : BitVec 32 := 1#32
  let v416 : BitVec 32 := Scalar.muli v415 c1_i32_272
  let v417 : BitVec 32 := Scalar.addi c0_i32_273 v416
  v417.toNat
def k0_dev14 (d0 : Dev nD) : Nat :=
  let c0_i32_288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_278 : BitVec 32 := 2#32
  let v426 : BitVec 32 := Scalar.addi v2 c2_i32_278
  let c4_i32_279 : BitVec 32 := 4#32
  let v427 : BitVec 32 := Scalar.remsi v426 c4_i32_279
  let c1_i32_287 : BitVec 32 := 1#32
  let v428 : BitVec 32 := Scalar.muli v427 c1_i32_287
  let v429 : BitVec 32 := Scalar.addi c0_i32_288 v428
  v429.toNat
def k0_dev15 (d0 : Dev nD) : Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_293 : BitVec 32 := 3#32
  let v438 : BitVec 32 := Scalar.addi v2 c3_i32_293
  let c4_i32_294 : BitVec 32 := 4#32
  let v439 : BitVec 32 := Scalar.remsi v438 c4_i32_294
  let c1_i32_302 : BitVec 32 := 1#32
  let v440 : BitVec 32 := Scalar.muli v439 c1_i32_302
  let v441 : BitVec 32 := Scalar.addi c0_i32_303 v440
  v441.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2048x512 : Shape := ⟨2, ![2048, 512]⟩
abbrev S2x128x2048 : Shape := ⟨3, ![2, 128, 2048]⟩
abbrev S2x128x32x64 : Shape := ⟨4, ![2, 128, 32, 64]⟩
abbrev S_ : Shape := ⟨0, ![]⟩
abbrev S2x32x128x1 : Shape := ⟨4, ![2, 32, 128, 1]⟩
abbrev S2x32x128x128 : Shape := ⟨4, ![2, 32, 128, 128]⟩
abbrev S2x32x128 : Shape := ⟨3, ![2, 32, 128]⟩
abbrev S2x128x32x1 : Shape := ⟨4, ![2, 128, 32, 1]⟩
abbrev S2x32x64x128 : Shape := ⟨4, ![2, 32, 64, 128]⟩

abbrev nBuf : Space → Nat
  | .hbm => 46
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S2048x512, .f32⟩
  | .hbm, ⟨5, _⟩ => ⟨S2x128x2048, .f32⟩
  | .hbm, ⟨6, _⟩ => ⟨S2x128x32x64, .f32⟩
  | .hbm, ⟨7, _⟩ => ⟨S2x128x2048, .f32⟩
  | .hbm, ⟨8, _⟩ => ⟨S2x128x32x64, .f32⟩
  | .hbm, ⟨9, _⟩ => ⟨S2x128x2048, .f32⟩
  | .hbm, ⟨10, _⟩ => ⟨S2x128x32x64, .f32⟩
  | .hbm, ⟨11, _⟩ => ⟨S_, .f32⟩
  | .hbm, ⟨12, _⟩ => ⟨S2x128x32x64, .f32⟩
  | .hbm, ⟨13, _⟩ => ⟨S_, .f32⟩
  | .hbm, ⟨14, _⟩ => ⟨S2x32x128x1, .f32⟩
  | .hbm, ⟨15, _⟩ => ⟨S_, .f32⟩
  | .hbm, ⟨16, _⟩ => ⟨S2x32x128x1, .f32⟩
  | .hbm, ⟨17, _⟩ => ⟨S2x32x128x128, .f32⟩
  | .hbm, ⟨18, _⟩ => ⟨S_, .f32⟩
  | .hbm, ⟨19, _⟩ => ⟨S2x32x128x128, .f32⟩
  | .hbm, ⟨20, _⟩ => ⟨S2x32x128x128, .f32⟩
  | .hbm, ⟨21, _⟩ => ⟨S_, .f32⟩
  | .hbm, ⟨22, _⟩ => ⟨S2x32x128, .f32⟩
  | .hbm, ⟨23, _⟩ => ⟨S2x32x128x1, .f32⟩
  | .hbm, ⟨24, _⟩ => ⟨S2x32x128x1, .f32⟩
  | .hbm, ⟨25, _⟩ => ⟨S2x32x128x1, .f32⟩
  | .hbm, ⟨26, _⟩ => ⟨S2x32x128x1, .f32⟩
  | .hbm, ⟨27, _⟩ => ⟨S2x32x128x128, .f32⟩
  | .hbm, ⟨28, _⟩ => ⟨S2x32x128x128, .f32⟩
  | .hbm, ⟨29, _⟩ => ⟨S2x32x128x128, .f32⟩
  | .hbm, ⟨30, _⟩ => ⟨S2x32x128x1, .f32⟩
  | .hbm, ⟨31, _⟩ => ⟨S_, .f32⟩
  | .hbm, ⟨32, _⟩ => ⟨S2x32x128, .f32⟩
  | .hbm, ⟨33, _⟩ => ⟨S2x32x128x1, .f32⟩
  | .hbm, ⟨34, _⟩ => ⟨S2x32x128x1, .f32⟩
  | .hbm, ⟨35, _⟩ => ⟨S2x128x32x1, .f32⟩
  | .hbm, ⟨36, _⟩ => ⟨S2x128x32x64, .f32⟩
  | .hbm, ⟨37, _⟩ => ⟨S2x128x32x64, .f32⟩
  | .hbm, ⟨38, _⟩ => ⟨S2x32x64x128, .f32⟩
  | .hbm, ⟨39, _⟩ => ⟨S2x128x32x64, .f32⟩
  | .hbm, ⟨40, _⟩ => ⟨S2x128x32x64, .f32⟩
  | .hbm, ⟨41, _⟩ => ⟨S2x128x32x1, .f32⟩
  | .hbm, ⟨42, _⟩ => ⟨S2x128x32x64, .f32⟩
  | .hbm, ⟨43, _⟩ => ⟨S2x128x32x64, .f32⟩
  | .hbm, ⟨44, _⟩ => ⟨S2x128x2048, .f32⟩
  | .hbm, ⟨45, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Protocol.lean ====
/-
The protocol of the kernel on four devices, as a schedule of rounds.

A device's barrier cell has three duties, one for each of the other devices, and hands over the landing slots that the
signalling device keeps for this one. A slot's transfer completes on two cells: the sender's send cell gives back a third
of the share of the block sent, the receiver's receive cell the slot holding the block.

The blocks sent are a parameter `S` here: `S c` is the whole of the send buffer of device `c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring.Trips
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (shares3 pointsTo_thirds)

variable {F : FTy → Type} [FloatOps F]

/-! ## The resource algebra -/

/-- The rounds of the kernel's own cells, their duties numbered by `Fin 3`. -/
abbrev UB : Type := URounds (GSem nD τ sig) (Fin 3)
/-- The pipeline's rounds beside the kernel's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices -/

/-- The device `j + 1` places after `c`. -/
def peer (c : Dev nD) (j : Fin 3) : Dev nD := ⟨(c.val + j.val + 1) % 4, Nat.mod_lt _ (by decide)⟩

/-- Going `j + 1` places on and the remaining places on comes back. -/
theorem peer_rev (c : Dev nD) (j : Fin 3) : peer (peer c j) j.rev = c := by revert c j; decide
theorem peer_rev' (c : Dev nD) (j : Fin 3) : peer (peer c j.rev) j = c := by revert c j; decide

/-! ## The memrefs -/

abbrev sM : Memref sig .tc .vmem S4x64x512 .bf16 := Memref.whole cc0_scratch1
abbrev rM : Memref sig .tc .vmem S3x4x64x512 .bf16 := Memref.whole cc0_scratch2

theorem inbS (b : Fin 4) : ∀ a, (![(b : ℕ), 0, 0] : Fin 3 → ℕ) a + S1x64x512.size a ≤ S4x64x512.size a := by
  revert b; decide
theorem inbR (s : Fin 3) (b : Fin 4) : ∀ a, (![(s : ℕ), (b : ℕ), 0, 0] : Fin 4 → ℕ) a + S1x1x64x512.size a ≤ S3x4x64x512.size a := by
  revert s b; decide
theorem inbQ (s : Fin 3) (b : Fin 4) : ∀ a, (![(s : ℕ), (b : ℕ)] : Fin 2 → ℕ) a + S1x1.size a ≤ S3x4.size a := by
  revert s b; decide

/-- Block `b` of the send buffer, and slot `(s, b)` of the landing buffer, as rectangles; -/
abbrev rectS (b : Fin 4) : Rect S4x64x512 := Rect.unit (s := S4x64x512) ![(b : ℕ), 0, 0] S1x64x512.size (inbS b)
abbrev rectR (s : Fin 3) (b : Fin 4) : Rect S3x4x64x512 := Rect.unit (s := S3x4x64x512) ![(s : ℕ), (b : ℕ), 0, 0] S1x1x64x512.size (inbR s b)
/-- as the memrefs the transfers go through. -/
abbrev sendM (b : Fin 4) : Memref sig .tc .vmem S64x512 .bf16 :=
  (sM.slice (rectS b) (fun _ => rfl)).squeeze S64x512 squeezes_S1x64x512_S64x512
abbrev slotM (s : Fin 3) (b : Fin 4) : Memref sig .tc .vmem S64x512 .bf16 :=
  (rM.slice (rectR s b) (fun _ => rfl)).squeeze S64x512 squeezes_S1x1x64x512_S64x512

/-- The elements of a block, and of a slot. -/
theorem set_sendM (b : Fin 4) : (sendM b).view.set = (rectS b).set := by
  exact (View.set_reshape (v := (View.whole cc0_scratch1).slice (rectS b)) _).trans (View.set_slice_whole _ _)
theorem set_slotM (s : Fin 3) (b : Fin 4) : (slotM s b).view.set = (rectR s b).set := by
  exact (View.set_reshape (v := (View.whole cc0_scratch2).slice (rectR s b)) _).trans (View.set_slice_whole _ _)

/-! ## The cells -/

/-- The barrier's semaphore, the send semaphores and the receive semaphores. -/
abbrev barS : Sem sig := (SemArray.scalar (sig.barrier 0 rfl) : Sems sig S_).sem
abbrev sndS (j : Fin 3) (b : Fin 4) : DmaSem sig :=
  ((cc0_scratch3.slice (Rect.unit (s := S3x4) ![(j : ℕ), (b : ℕ)] S1x1.size (inbQ j b))).squeeze S_ squeezes_S1x1_S_).sem
abbrev rcvS (s : Fin 3) (b : Fin 4) : DmaSem sig :=
  ((cc0_scratch4.slice (Rect.unit (s := S3x4) ![(s : ℕ), (b : ℕ)] S1x1.size (inbQ s b))).squeeze S_ squeezes_S1x1_S_).sem

/-- The kinds of cell: the barrier, the send cells, the receive cells. -/
abbrev CK : Type := Unit ⊕ (Fin 3 × Fin 4) ⊕ (Fin 3 × Fin 4)
abbrev kBar : CK := .inl ()
abbrev kSnd (j : Fin 3) (b : Fin 4) : CK := .inr (.inl (j, b))
abbrev kRcv (s : Fin 3) (b : Fin 4) : CK := .inr (.inr (s, b))

/-- The semaphore of each kind of cell. -/
def csem : CK → SemLoc sig
  | .inl _ => .reg barS
  | .inr (.inl x) => .dma (sndS x.1 x.2)
  | .inr (.inr x) => .dma (rcvS x.1 x.2)

theorem csem_injective : Function.Injective csem := by decide +kernel

/-- The cell of kind `k` of device `c`. -/
abbrev kcell (ck : Dev nD × CK) : GSem nD τ sig := ((ck.1 : Thread nD τ), csem ck.2)
abbrev barCell (c : Dev nD) : GSem nD τ sig := kcell (c, kBar)
abbrev sndCell (c : Dev nD) (j : Fin 3) (b : Fin 4) : GSem nD τ sig := kcell (c, kSnd j b)
abbrev rcvCell (c : Dev nD) (s : Fin 3) (b : Fin 4) : GSem nD τ sig := kcell (c, kRcv s b)

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The kind of the cell on a semaphore, if it is one of the kernel's. -/
def kindOf (sm : SemLoc sig) : Option CK := Function.partialInv csem sm
theorem kindOf_csem (k : CK) : kindOf (csem k) = some k := Function.partialInv_left csem_injective k

/-- What one transfer credits. -/
def N : ℕ := (slotM 0 0).view.dmaCredit
theorem N_pos : 0 < N := View.dmaCredit_pos _ (by decide)
theorem credit_slotM (s : Fin 3) (b : Fin 4) : (slotM s b).view.dmaCredit = N := rfl
theorem credit_sendM (b : Fin 4) : (sendM b).view.dmaCredit = N := rfl

/-! ## The contents -/

variable (S : Dev nD → S4x64x512.Idx → Elt F .bf16)

/-- The index of the send buffer that an index of the landing buffer takes its value from. -/
def srcIdx (i : S3x4x64x512.Idx) : S4x64x512.Idx := fun a => match a with
  | ⟨0, _⟩ => i 1
  | ⟨1, _⟩ => i 2
  | ⟨2, _⟩ => i 3

/-- The landing buffer of device `c` when everything has arrived: slot `s` holds the blocks of the device `s + 1` places on. -/
def landed (c : Dev nD) (i : S3x4x64x512.Idx) : Elt F .bf16 := S (peer c (i 0)) (srcIdx i)

/-- Slot `(s, b)` of device `c` at contents `f`; -/
def slotPts (c : Dev nD) (s : Fin 3) (b : Fin 4) (f : Buf (Elt F) ((slotM s b).view.loc (c : Thread nD τ))) : sProp 𝕄 :=
  (slotM s b).view.loc (c : Thread nD τ) ↦[(slotM s b).view.set]{fullShare} f
/-- block `b` of the send buffer of device `c`, at the share `q`. -/
def blkPts (c : Dev nD) (q : PosShare TreeShare) (b : Fin 4) (f : Buf (Elt F) ((sendM b).view.loc (c : Thread nD τ))) : sProp 𝕄 :=
  (sendM b).view.loc (c : Thread nD τ) ↦[(sendM b).view.set]{q} f

omit [FloatOps F] in
instance slotPts_storable (c : Dev nD) (s b f) : BI.Storable (upEmb : UEmb _ 𝕄) (slotPts (F := F) c s b f) := by unfold slotPts; infer_instance
omit [FloatOps F] in
instance blkPts_storable (c : Dev nD) (q b f) : BI.Storable (upEmb : UEmb _ 𝕄) (blkPts (F := F) c q b f) := by unfold blkPts; infer_instance

/-! ## The schedule -/

/-- What the signal of duty `d` hands device `c`: the four slots of the signalling device that `c` fills. -/
def barPay (c : Dev nD) (d : Fin 3) : sProp 𝕄 :=
  bigSep Finset.univ fun b : Fin 4 => iprop(∃ f, slotPts (peer c d.rev) d b f)

omit [FloatOps F] in
instance barPay_storable (c : Dev nD) (d : Fin 3) : BI.Storable (upEmb : UEmb _ 𝕄) (barPay (F := F) c d) := by unfold barPay; infer_instance

/-- The payload of duty `d` of a cell of kind `k` of device `c`. -/
def payOf (c : Dev nD) (k : CK) (d : Fin 3) : sProp 𝕄 := match k with
  | .inl _ => barPay c d
  | .inr (.inl x) => blkPts c (shares3 fullShare x.1) x.2 (S c)
  | .inr (.inr x) => slotPts c x.1 x.2 (landed S c)

omit [FloatOps F] in
instance payOf_storable (c : Dev nD) (k : CK) (d : Fin 3) : BI.Storable (upEmb : UEmb _ 𝕄) (payOf (F := F) S c k d) := by
  rcases k with _ | _ | _ <;> (unfold payOf; infer_instance)

/-- The duties of a cell of each kind, and what a duty of it counts. -/
def dutiesOf : Option CK → Finset (Fin 3)
  | none => ∅
  | some (.inl _) => Finset.univ
  | some (.inr _) => {0}
def amountOf : Option CK → ℕ
  | some (.inl _) => 1
  | _ => N

/-- One round: the barrier cell with three duties of one unit, a send or receive cell with one duty of a block's credit. -/
def rd : Rounds.Schedule (GSem nD τ sig) (Fin 3) 𝕄 where
  duties g r := if r = 0 ∧ g.1.2 = .tc then dutiesOf (kindOf g.2) else ∅
  unitless _ := False
  amount g _ _ := amountOf (kindOf g.2)
  payload g _ d := match kindOf g.2 with
    | none => iprop(emp)
    | some k => payOf S g.1.1 k d
  amount_pos g _ _ _ := by
    rcases kindOf g.2 with _ | _ | _
    · exact N_pos
    · exact Nat.one_pos
    · exact N_pos

instance rd_payload_storable (g : GSem nD τ sig) (r : ℕ) (d : Fin 3) : BI.Storable (upEmb : UEmb _ 𝕄) ((rd (F := F) S).payload g r d) := by
  show BI.Storable upEmb (match kindOf g.2 with | none => iprop(emp) | some k => payOf S g.1.1 k d)
  rcases kindOf g.2 with _ | k
  · show BI.Storable upEmb iprop(emp); infer_instance
  · show BI.Storable upEmb (payOf S g.1.1 k d); infer_instance

section Tables
variable (c : Dev nD) (k : CK) (d : Fin 3)

omit [FloatOps F] in
theorem duties_eq : (rd (F := F) S).duties (kcell (c, k)) 0 = dutiesOf (some k) := by
  dsimp only [rd]
  rw [if_pos ⟨rfl, rfl⟩, kindOf_csem]
omit [FloatOps F] in
theorem duties_later (g : GSem nD τ sig) : ∀ r, 1 ≤ r → (rd (F := F) S).duties g r = ∅ :=
  fun r hr => if_neg fun h => by omega
omit [FloatOps F] in
theorem amount_eq (r : ℕ) : (rd (F := F) S).amount (kcell (c, k)) r d = amountOf (some k) := by
  show amountOf (kindOf (csem k)) = _; rw [kindOf_csem]
omit [FloatOps F] in
theorem payload_eq (r : ℕ) : (rd (F := F) S).payload (kcell (c, k)) r d = payOf S c k d := by
  show (match kindOf (csem k) with | none => iprop(emp) | some k => payOf S c k d) = _; rw [kindOf_csem]

omit [FloatOps F] in
theorem expect_bar : (rd (F := F) S).expect (barCell c) 0 = 3 := by
  unfold Schedule.expect Schedule.amountOf
  rw [duties_eq, Finset.sum_congr rfl fun d _ => amount_eq S c kBar d 0]; rfl
omit [FloatOps F] in
theorem expect_xfer (x : (Fin 3 × Fin 4) ⊕ (Fin 3 × Fin 4)) : (rd (F := F) S).expect (kcell (c, .inr x)) 0 = N := by
  unfold Schedule.expect Schedule.amountOf
  rw [duties_eq, Finset.sum_congr rfl fun d _ => amount_eq S c (.inr x) d 0]
  show ∑ d ∈ ({0} : Finset (Fin 3)), N = N
  rw [Finset.sum_singleton]
omit [FloatOps F] in
/-- All payloads of a barrier cell's round; -/
theorem rest_bar : bigSep ((rd (F := F) S).duties (barCell c) 0 \ ∅) (fun d => (rd (F := F) S).payload (barCell c) 0 d)
    = bigSep Finset.univ (barPay (F := F) c) := by
  rw [Finset.sdiff_empty, duties_eq]; exact bigSep_congr fun d _ => payload_eq S c kBar d 0
omit [FloatOps F] in
/-- of a transfer's cell. -/
theorem rest_xfer (x : (Fin 3 × Fin 4) ⊕ (Fin 3 × Fin 4)) :
    bigSep ((rd (F := F) S).duties (kcell (c, .inr x)) 0 \ ∅) (fun d => (rd (F := F) S).payload (kcell (c, .inr x)) 0 d)
      = payOf S c (.inr x) 0 := by
  rw [Finset.sdiff_empty, duties_eq]
  show bigSep ({0} : Finset (Fin 3)) _ = _
  rw [bigSep_singleton, payload_eq]

end Tables

/-! ## What each device owes at launch; the levels -/

/-- The receive cell that transfer `(j, b)` of device `c` completes on. -/
abbrev dstCell (c : Dev nD) (j : Fin 3) (b : Fin 4) : GSem nD τ sig := rcvCell (peer c j) j.rev b

/-- The credit of the three transfers of block `b`; -/
def owedBlk (c : Dev nD) (b : Fin 4) : CellTallies nD τ sig Unit := ∑ j : Fin 3, tallyAt (dstCell c j b) () N
/-- of all transfers; -/
def owedSend (c : Dev nD) : CellTallies nD τ sig Unit := ∑ b : Fin 4, owedBlk c b
/-- with it the unit for each other device's barrier. -/
def O₀ (c : Dev nD) : CellTallies nD τ sig Unit := owedSend c + ∑ j : Fin 3, tallyAt (barCell (peer c j)) () 1

def L (g : GSem nD τ sig) : Finset Unit := if g.1.2 = .tc then {()} else ∅
/-- Barrier cells at 1, receive cells at 2, everything else at 0. -/
def lvK : Option CK → ℕ
  | some (.inl _) => 1
  | some (.inr (.inr _)) => 2
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Dev nD × CK) (u : Unit) : lv (kcell ck) u = lvK (some ck.2) := by
  show lvK (kindOf (csem ck.2)) = _; rw [kindOf_csem]

/-- A sum of tallies that is positive at a cell has a positive summand there. -/
theorem sum_pos_of {I : Type} (s : Finset I) (f : I → CellTallies nD τ sig Unit) {g : GSem nD τ sig} {u : Unit}
    (h : 0 < (∑ i ∈ s, f i) g u) : ∃ i ∈ s, 0 < f i g u := by
  classical
  induction s using Finset.induction_on with
  | empty => exact absurd h (Nat.lt_irrefl 0)
  | insert i s hi ih =>
    rw [Finset.sum_insert hi, Pi.add_apply, Finsupp.add_apply] at h
    by_cases h0 : 0 < f i g u
    · exact ⟨i, Finset.mem_insert_self _ _, h0⟩
    · obtain ⟨i', h1, h2⟩ := ih (by omega)
      exact ⟨i', Finset.mem_insert_of_mem h1, h2⟩

theorem tally_pos {g' g : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- Before its transfers a device owes receive cells only. -/
theorem owedSend_pos {c : Dev nD} {g : GSem nD τ sig} {u : Unit} (h : 0 < owedSend c g u) : ∃ j b, g = dstCell c j b := by
  obtain ⟨b, -, h⟩ := sum_pos_of _ _ h
  obtain ⟨j, -, h⟩ := sum_pos_of _ _ h
  exact ⟨j, b, tally_pos h⟩
theorem O₀_pos {c : Dev nD} {g : GSem nD τ sig} {u : Unit} (h : 0 < O₀ c g u) :
    (∃ j b, g = dstCell c j b) ∨ ∃ j, g = barCell (peer c j) := by
  unfold O₀ at h
  rw [Pi.add_apply, Finsupp.add_apply] at h
  by_cases h0 : 0 < owedSend c g u
  · exact .inl (owedSend_pos h0)
  · obtain ⟨j, -, h⟩ := sum_pos_of Finset.univ _ (show 0 < (∑ j : Fin 3, tallyAt (barCell (peer c j)) () 1 : CellTallies nD τ sig Unit) g u by omega)
    exact .inr ⟨j, tally_pos h⟩

omit [FloatOps F] in
/-- The pipeline's own waits: below everything owed. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, b, rfl⟩ | ⟨j, rfl⟩ <;> exact Finset.mem_singleton_self _)
      (fun p hp => by rw [Finset.mem_singleton.mp hp]; show lvK (kindOf (.dma q)) ≤ 0; rw [hq]; exact le_refl _)
      (fun g u hg => by
        rcases O₀_pos hg with ⟨j, b, rfl⟩ | ⟨j, rfl⟩
        · rw [lv_kcell]; exact Nat.two_pos
        · rw [lv_kcell]; exact Nat.one_pos)
  · rw [MayWait_zero]; iintro -; iempintro

omit [FloatOps F] in
/-- The barrier's wait: every receive cell owed is above it. -/
theorem mayWait_bar (c : Dev nD) : (levAts L lv : sProp 𝕄) ⊢ MayWait (c : Thread nD τ) (.reg barS) () (owedSend c) :=
  MayOwe.of_cut (L := L) (lev := lv) 1 (fun p hp => by rw [Finset.mem_singleton.mp hp, L_tc]; exact Finset.mem_singleton_self _)
    (fun g u hg => by obtain ⟨j, b, rfl⟩ := owedSend_pos hg; exact Finset.mem_singleton_self _)
    (fun p hp => by rw [Finset.mem_singleton.mp hp]; exact le_of_eq (lv_kcell (c, kBar) ()))
    (fun g u hg => by obtain ⟨j, b, rfl⟩ := owedSend_pos hg; rw [lv_kcell]; exact Nat.one_lt_two)

end Cert.Attn

end
-- ==== Proof.Values.lean ====
/-
What one device computes, as functions of what its staging buffers hold: the scores, the attention weights, the blocks it
sends and the blocks it stores.
-/
module

public import proofs.«01_k».proof.Proof.Protocol
public import Idealize.ShloMosaic.Lib.Pointwise

@[expose] public section

noncomputable section

namespace Cert.Attn

open Cert.KernelIdeal Cert.KernelIdeal.Gen
open Idealize.ShloMosaic
open Idealize.ShloMosaic.TcCoe

variable {F : FTy → Type} [FloatOps F]

theorem slicesQ (i : Fin 16) : S256x512.Slices ![i.val / 8 * 128, i.val % 8 * 64] S128x64 := by revert i; decide
theorem slicesP (b : Fin 4) (h : Fin 8) : S2048x128.Slices ![b.val / 2 * 1024 + h.val * 128 + b.val % 2 * 64, 0] S64x128 := by
  revert b h; decide
theorem slicesV (b : Fin 4) (h : Fin 8) : S256x512.Slices ![b.val / 2 * 128, h.val * 64] S128x64 := by revert b h; decide

/-- The scores of head `i % 8` of batch `i / 8`: queries times keys, an eighth of it. -/
def score (q k : FVec F S256x512 .f32) (i : Fin 16) : FVec F S128x128 .f32 :=
  shapeCast S128x128 (mulf (matmul dot_S128x64_S64x128_S128x128_1_0_0_1_n_n none
      (extractStridedSlice S128x64 ![i.val / 8 * 128, i.val % 8 * 64] q (slicesQ i))
      (transpose S64x128 [1, 0] (extractStridedSlice S128x64 ![i.val / 8 * 128, i.val % 8 * 64] k (slicesQ i)) transposes_S128x64_p1_0_S64x128)
      (constant S128x128 .f32 0x00000000#32)) (broadcast S128x128 (Scalar.ofBits .f32 0x3E000000#32))) shapeCasts_S128x128_S128x128

/-- The score buffer: the sixteen heads below one another. -/
def scores (q k : FVec F S256x512 .f32) : FVec F S2048x128 .f32 := fun i =>
  score q k ⟨(i 0).val / 128, Nat.div_lt_of_lt_mul (i 0).isLt⟩ (ix2 (⟨(i 0).val % 128, Nat.mod_lt _ (by decide)⟩ : Fin 128) (i 1 : Fin 128))

/-- Head `h` of block `b`: the weights of its 64 query rows times the values. -/
def head (p : FVec F S2048x128 .f32) (v : FVec F S256x512 .f32) (b : Fin 4) (h : Fin 8) : FVec F S64x64 .f32 :=
  matmul dot_S64x128_S128x64_S64x64_1_0_0_1_n_n none
    (extractStridedSlice S64x128 ![b.val / 2 * 1024 + h.val * 128 + b.val % 2 * 64, 0] p (slicesP b h))
    (extractStridedSlice S128x64 ![b.val / 2 * 128, h.val * 64] v (slicesV b h)) (constant S64x64 .f32 0x00000000#32)

/-- Block `b` of the device's part of the result: its heads side by side, times the output weights. -/
def block (p : FVec F S2048x128 .f32) (v : FVec F S256x512 .f32) (wo : Vec F S512x512 .f32) (b : Fin 4) : FVec F S64x512 .f32 :=
  matmul dot_S64x512_S512x512_S64x512_1_0_0_1_n_n none
    (concatenate S64x512 1 [⟨S64x64, head p v b 0⟩, ⟨S64x64, head p v b 1⟩, ⟨S64x64, head p v b 2⟩, ⟨S64x64, head p v b 3⟩,
      ⟨S64x64, head p v b 4⟩, ⟨S64x64, head p v b 5⟩, ⟨S64x64, head p v b 6⟩, ⟨S64x64, head p v b 7⟩]
      concatenates_S64x64_S64x64_S64x64_S64x64_S64x64_S64x64_S64x64_S64x64_S64x512_d1)
    (shapeCast S512x512 wo shapeCasts_S512x512_S512x512) (constant S64x512 .f32 0x00000000#32)

/-- What is sent of a block. -/
def sent (g : FVec F S64x512 .f32) : FVec F S1x64x512 .bf16 :=
  shapeCast S1x64x512 (truncf .bf16 g bitsLt_bf16_f32) shapeCasts_S64x512_S1x64x512

section Device
variable (x : Vec F S2x128x512 .f32) (wq wo wk wv : Vec F S512x512 .f32)

/-- The weights of a device: the softmax of its scores. -/
def weights : FVec F S2048x128 .f32 := k0_pay25 (scores (k0_pay2 x wq) (k0_pay3 x wk))
/-- Its block `b`. -/
def own (b : Fin 4) : FVec F S64x512 .f32 := block (weights x wq wk) (k0_pay4 x wv) wo b
/-- Its send buffer. -/
def sendBuf : S4x64x512.Idx → Elt F .bf16 := fun i => sent (own x wq wo wk wv (i 0)) (ix3 0 (i 1) (i 2))

end Device

/-- What a device stores: its own blocks, to each the blocks that the three others sent it added. -/
def outBuf (g : Fin 4 → FVec F S64x512 .f32) (R : S3x4x64x512.Idx → Elt F .bf16) : S2x128x512.Idx → Elt F .f32 := fun i =>
  let b : Fin 4 := ⟨(i 0).val * 2 + (i 1).val / 64, by have h0 : (i 0).val < 2 := (i 0).isLt; have h1 : (i 1).val < 128 := (i 1).isLt; omega⟩
  k0_pay48 (g b) (rM.view.readAt (Elt F) (rectR 0 b).toLoadRect R) (rM.view.readAt (Elt F) (rectR 1 b).toLoadRect R)
    (rM.view.readAt (Elt F) (rectR 2 b).toLoadRect R) (ix3 0 (⟨(i 1).val % 64, Nat.mod_lt _ (by decide)⟩ : Fin 64) (i 2 : Fin 512))

/-! ## The printed payloads are these -/

section Printed
variable (x : Vec F S2x128x512 .f32) (wq wk : Vec F S512x512 .f32) (q k v : FVec F S256x512 .f32) (p : FVec F S2048x128 .f32)
  (wo : Vec F S512x512 .f32)

theorem pay5_eq : k0_pay5 x wq wk = score (k0_pay2 x wq) (k0_pay3 x wk) 0 := rfl
theorem pay10_eq : k0_pay10 q k = score q k 3 := rfl
theorem pay24_eq : k0_pay24 q k = score q k 15 := rfl

end Printed

end Cert.Attn

end
-- ==== Proof.Memory.lean ====
/-
The buffers of the exchange: which elements a block and a slot are, what a transfer leaves in a slot, and the whole buffers
against their parts.
-/
module

public import proofs.«01_k».proof.Proof.Values

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Ring (shares3 pointsTo_thirds)

variable {F : FTy → Type} [FloatOps F]

local notation "𝕄" => MT nD τ sig Unit (Elt F) ℕ UU ℕ

/-! ## Stores -/

omit [FloatOps F] in
/-- A store of values of `tgt` into contents that agree with `tgt` on `P` agrees with it on `P` and on what it writes. -/
theorem write_agrees {κ : Kind} {sp : Space} {s : Shape} {e : EltTy} (v : View sig κ sp s e) (f tgt : v.ty.Contents (Elt F)) (w : s.Idx → Elt F e)
    (P : v.ty.Idx → Prop) (hP : ∀ i, P i → f i = tgt i)
    (hw : ∀ x, _root_.cast (congrArg (Elt F) v.elt_eq.symm) (w x) = tgt (v.emb x)) (i : v.ty.Idx) (hi : P i ∨ i ∈ v.set) :
    v.write (Elt F) f w Finset.univ i = tgt i := by
  by_cases h : i ∈ v.setOn Finset.univ
  · obtain ⟨x, hx, rfl⟩ := Finset.mem_map.mp h
    rw [View.write_emb_of_mem _ _ hx]; exact hw x
  · rw [View.write_of_not_mem _ _ _ h]
    exact hP i (hi.resolve_right h)

/-! ## The coordinates of a block and of a slot -/

theorem reshape_S (h : S64x512.numel = S1x64x512.numel) (x : S64x512.Idx) :
    Shape.reshapeEquiv h x = ix3 0 (x 0 : Fin 64) (x 1 : Fin 512) := by
  idx_vars x
  pointwise
theorem reshape_R (h : S64x512.numel = S1x1x64x512.numel) (x : S64x512.Idx) :
    Shape.reshapeEquiv h x = ix4 0 0 (x 0 : Fin 64) (x 1 : Fin 512) := by
  idx_vars x
  pointwise

theorem emb_rectS (b : Fin 4) (x : S1x64x512.Idx) : (rectS b).emb x = (ix3 b (x 1 : Fin 64) (x 2 : Fin 512) : S4x64x512.Idx) := by
  have h0 : (x 0).val < 1 := (x 0).isLt
  funext a
  match a with
  | 0 => exact Fin.ext (show b.val + 1 * (x 0).val = b.val by omega)
  | 1 => exact Fin.ext (show 0 + 1 * (x 1).val = (x 1).val by omega)
  | 2 => exact Fin.ext (show 0 + 1 * (x 2).val = (x 2).val by omega)
theorem emb_rectR (s : Fin 3) (b : Fin 4) (x : S1x1x64x512.Idx) :
    (rectR s b).emb x = (ix4 s b (x 2 : Fin 64) (x 3 : Fin 512) : S3x4x64x512.Idx) := by
  have h0 : (x 0).val < 1 := (x 0).isLt
  have h1 : (x 1).val < 1 := (x 1).isLt
  funext a
  match a with
  | 0 => exact Fin.ext (show s.val + 1 * (x 0).val = s.val by omega)
  | 1 => exact Fin.ext (show b.val + 1 * (x 1).val = b.val by omega)
  | 2 => exact Fin.ext (show 0 + 1 * (x 2).val = (x 2).val by omega)
  | 3 => exact Fin.ext (show 0 + 1 * (x 3).val = (x 3).val by omega)

theorem emb_sendM (b : Fin 4) (x : S64x512.Idx) : (sendM b).view.emb x = (ix3 b (x 0 : Fin 64) (x 1 : Fin 512) : S4x64x512.Idx) :=
  (congrArg (rectS b).emb (reshape_S (by decide) x)).trans (emb_rectS b _)
theorem emb_slotM (s : Fin 3) (b : Fin 4) (x : S64x512.Idx) :
    (slotM s b).view.emb x = (ix4 s b (x 0 : Fin 64) (x 1 : Fin 512) : S3x4x64x512.Idx) :=
  (congrArg (rectR s b).emb (reshape_R (by decide) x)).trans (emb_rectR s b _)

theorem mem_rectS (b : Fin 4) (i : S4x64x512.Idx) : i ∈ (rectS b).set ↔ i 0 = b := by
  rw [Rect.mem_set_unit]
  constructor
  · intro h
    have h0 := h 0
    simp at h0
    exact Fin.ext (by omega)
  · intro h a
    fin_cases a
    · simp [← h]
    · exact ⟨Nat.zero_le _, by simpa using (i 1).isLt⟩
    · exact ⟨Nat.zero_le _, by simpa using (i 2).isLt⟩
theorem mem_rectR (s : Fin 3) (b : Fin 4) (i : S3x4x64x512.Idx) : i ∈ (rectR s b).set ↔ i 0 = s ∧ i 1 = b := by
  rw [Rect.mem_set_unit]
  constructor
  · intro h
    have h0 := h 0
    have h1 := h 1
    simp at h0 h1
    exact ⟨Fin.ext (by omega), Fin.ext (by omega)⟩
  · rintro ⟨h0, h1⟩ a
    fin_cases a
    · simp [← h0]
    · simp [← h1]
    · exact ⟨Nat.zero_le _, by simpa using (i 2).isLt⟩
    · exact ⟨Nat.zero_le _, by simpa using (i 3).isLt⟩

/-! ## What a transfer leaves -/

variable (S : Dev nD → S4x64x512.Idx → Elt F .bf16)

omit [FloatOps F] in
/-- Block `b` of device `c`, arrived in its slot at the device `j + 1` places on, is what that slot is to hold. -/
theorem landing (c : Dev nD) (j : Fin 3) (b : Fin 4) (f : Buf (Elt F) ((slotM j.rev b).view.loc (peer c j : Thread nD τ))) :
    ((slotM j.rev b).view.loc (peer c j : Thread nD τ) ↦[(slotM j.rev b).view.set]{fullShare}
        ((slotM j.rev b).view.write (Elt F) f ((sendM b).view.read (Elt F) (S c)) Finset.univ) : sProp 𝕄)
      = slotPts (peer c j) j.rev b (landed S (peer c j)) := by
  unfold slotPts
  refine pointsTo_congr fun i hi => ?_
  refine write_agrees (slotM j.rev b).view f (landed S (peer c j)) _ (fun _ => False) (fun _ h => h.elim) (fun x => ?_) i (.inr hi)
  rw [emb_slotM]
  show S c ((sendM b).view.emb x) = S (peer (peer c j) j.rev) (srcIdx (ix4 j.rev b (x 0) (x 1)))
  rw [emb_sendM, peer_rev]
  congr 1
  funext a
  fin_cases a <;> rfl

/-! ## Whole buffers and their parts -/

omit [FloatOps F] in
theorem blk_thirds (c : Dev nD) (b : Fin 4) (f : S4x64x512.Idx → Elt F .bf16) :
    (blkPts c fullShare b f : sProp 𝕄) ⊣⊢ bigSep Finset.univ (fun j : Fin 3 => blkPts c (shares3 fullShare j) b f) := by
  rw [bigSep_univ_eq_bigSepL [0, 1, 2] (by decide) (by decide)]
  exact pointsTo_thirds _ _

omit [FloatOps F] in
/-- The send buffer is its four blocks; -/
theorem sends_split (c : Dev nD) (f : S4x64x512.Idx → Elt F .bf16) :
    (((c : Thread nD τ).loc cc0_scratch1 ↦{fullShare} f) : sProp 𝕄) = bigSep Finset.univ fun b : Fin 4 => blkPts c fullShare b f := by
  have h : (Finset.univ : Finset (Idx ((c : Thread nD τ).loc cc0_scratch1))) = Finset.univ.biUnion fun b : Fin 4 => (sendM b).view.set := by
    ext i; simp only [Finset.mem_univ, Finset.mem_biUnion, true_and, true_iff]
    exact ⟨(i : S4x64x512.Idx) 0, (Finset.ext_iff.mp (set_sendM _) i).mpr ((mem_rectS _ i).mpr rfl)⟩
  show (((c : Thread nD τ).loc cc0_scratch1 ↦[Finset.univ]{fullShare} f) : sProp 𝕄) = _
  rw [h]
  exact pointsTo_biUnion _ _ fun b _ b' _ hb => Finset.disjoint_left.mpr fun i hi hi' => hb (by
    replace hi := (mem_rectS b i).mp ((Finset.ext_iff.mp (set_sendM b) i).mp hi)
    replace hi' := (mem_rectS b' i).mp ((Finset.ext_iff.mp (set_sendM b') i).mp hi')
    exact hi.symm.trans hi')
omit [FloatOps F] in
/-- the landing buffer its twelve slots. -/
theorem slots_split (c : Dev nD) (f : S3x4x64x512.Idx → Elt F .bf16) :
    (((c : Thread nD τ).loc cc0_scratch2 ↦{fullShare} f) : sProp 𝕄)
      = bigSep Finset.univ fun x : Fin 3 × Fin 4 => slotPts c x.1 x.2 f := by
  have h : (Finset.univ : Finset (Idx ((c : Thread nD τ).loc cc0_scratch2)))
      = Finset.univ.biUnion fun x : Fin 3 × Fin 4 => (slotM x.1 x.2).view.set := by
    ext i; simp only [Finset.mem_univ, Finset.mem_biUnion, true_and, true_iff]
    exact ⟨((i : S3x4x64x512.Idx) 0, (i : S3x4x64x512.Idx) 1), (Finset.ext_iff.mp (set_slotM _ _) i).mpr ((mem_rectR _ _ i).mpr ⟨rfl, rfl⟩)⟩
  show (((c : Thread nD τ).loc cc0_scratch2 ↦[Finset.univ]{fullShare} f) : sProp 𝕄) = _
  rw [h]
  exact pointsTo_biUnion _ _ fun x _ x' _ hx => Finset.disjoint_left.mpr fun i hi hi' => hx (by
    obtain ⟨h0, h1⟩ := (mem_rectR _ _ i).mp ((Finset.ext_iff.mp (set_slotM _ _) i).mp hi)
    obtain ⟨h0', h1'⟩ := (mem_rectR _ _ i).mp ((Finset.ext_iff.mp (set_slotM _ _) i).mp hi')
    exact Prod.ext (h0.symm.trans h0') (h1.symm.trans h1'))

end Cert.Attn

end
-- ==== Proof.Steps.lean ====
/-
The effects of the body, each kind once: a score block stored, a signal, the barrier's wait, a block computed and sent to the
three other devices, a transfer's wait, and the blocks that arrived added to the device's own and stored.
-/
module

public import proofs.«01_k».proof.Proof.Memory

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

abbrev 𝒱₀ : Variants := Variants.none

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

variable (S : Dev nD → S4x64x512.Idx → Elt F .bf16) (K : Dev nD × CK → ℕ)

/-- Every cell's invariant, and that every cell is at round 0 at least. -/
def records : sProp 𝕄 :=
  iprop((bigSep Finset.univ fun ck : Dev nD × CK => cellInv ER (rd S) (K ck) (kcell ck))
    ∗ bigSep Finset.univ fun ck : Dev nD × CK => reached ER (kcell ck) 0)

instance records_persistent : BI.Persistent (records S K) := by unfold records; infer_instance

theorem inv_at (ck : Dev nD × CK) : records S K ⊢ cellInv ER (rd S) (K ck) (kcell ck) := by
  unfold records
  exact sep_elim_left.trans (bigSep_elim (Finset.mem_univ ck))
theorem reached_at (ck : Dev nD × CK) : records S K ⊢ reached ER (kcell ck) 0 := by
  unfold records
  exact sep_elim_right.trans (bigSep_elim (Finset.mem_univ ck))

/-- What device `c` owes, its waits so far being of no account. -/
def owesX (c : Dev nD) (O : CellTallies nD τ sig Unit) : sProp 𝕄 := iprop(∃ W, owes (c : Thread nD τ) O W)

/-- What a wait for a transfer takes: the transfer's credit and the position before it. -/
def waitRes (c : Dev nD) (x : (Fin 3 × Fin 4) ⊕ (Fin 3 × Fin 4)) : sProp 𝕄 :=
  iprop(cred (tallyAt (kcell (c, .inr x)) () N) ∗ atPos ER (kcell (c, .inr x)) 0 ∅ 0)

section Rules

variable (c : Dev nD)

/-- The signal to the device `j + 1` places on: the unit owed it, for the slots that it fills here. -/
theorem step_signal (j : Fin 3) (n : Dev nD) (hn : n = peer c j) (k' : ℤ) (hk' : k' = 1) (O : CellTallies nD τ sig Unit)
    {α : Type} {Q : α → sProp 𝕄} {k : PUnit → Prog (TpuEff nD τ sig (Elt F) Λ₀ .tc) α} :
    iprop(records S K ∗ owesX c (O + tallyAt (barCell (peer c j)) () 1) ∗ dutyTok ER (barCell (peer c j)) 0 j
        ∗ bigSep Finset.univ fun b : Fin 4 => iprop(∃ f, slotPts c j b f))
      ⊢ iprop((owesX c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk'
  unfold owesX
  iintro ⟨#HR, ⟨%W, HO⟩, Htok, Hslots⟩ Hk
  iapply (Rounds.wp_signal 𝒱₀ ER (rd S) (c : Thread nD τ) none (dst := (peer c j : Thread nD τ)) (κ := K (peer c j, kBar)) (d := j) (r := 0)
      (by rw [show ((Dev.tc (peer c j) : Thread nD τ), SemLoc.reg barS) = barCell (peer c j) from rfl, duties_eq]; exact Finset.mem_univ _)
      ((amount_eq S (peer c j) kBar j 0).trans (by decide)) () O rfl) $$ [HO Htok Hslots]
  · isplitr; · iapply (inv_at S K (peer c j, kBar)); iexact HR
    isplitl [HO]; · iexact HO
    isplitl [Htok]; · iexact Htok
    isplitl [Hslots]
    · rw [show (rd S).payload ((Dev.tc (peer c j) : Thread nD τ), SemLoc.reg barS) 0 j = barPay (peer c j) j from payload_eq S (peer c j) kBar j 0]
      unfold barPay; rw [peer_rev]; iexact Hslots
    iapply (reached_at S K (peer c j, kBar)); iexact HR
  iintro HO
  iapply Hk
  iexists W; iexact HO

/-- The wait for the three others' signals: the slots of each that this device fills. -/
theorem step_barrier (k' : ℤ) (hk' : k' = 3) {α : Type} {Q : α → sProp 𝕄} {k : PUnit → Prog (TpuEff nD τ sig (Elt F) Λ₀ .tc) α} :
    iprop(records S K ∗ levAts L lv ∗ owesX c (owedSend c) ∗ cred (tallyAt (barCell c) () 3) ∗ atPos ER (barCell c) 0 ∅ 0)
      ⊢ iprop(((owesX c (owedSend c) ∗ bigSep Finset.univ (barPay (F := F) c) ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold owesX
  iintro ⟨#HR, #Hlev, ⟨%W, HO⟩, Hc, Hat⟩ Hk
  iapply (Rounds.wp_wait_rest_token 𝒱₀ ER (rd S) (c : Thread nD τ) none (κ := K (c, kBar))
      (wpE_semWait_eq 𝒱₀ (c : Thread nD τ) none Set.univ) (Set.mem_univ _) () (O := owedSend c) (W := W) (R := 0) (m := 0) (T := ∅)
      (by rw [Nat.zero_add]; exact (expect_bar S c).symm)) $$ [Hc HO Hat]
  · isplitr; · iapply (inv_at S K (c, kBar)); iexact HR
    isplitl [Hc]; · iexact Hc
    isplitl [HO]; · iexact HO
    isplitr; · iapply (mayWait_bar c); iexact Hlev
    iexact Hat
  iintro ⟨HO, Hat, -, Hpay⟩
  ihave Hp := (Entails.of_eq (show bigSep ((rd S).duties ((c : Thread nD τ), SemLoc.reg barS) 0 \ ∅)
      (fun d => (rd S).payload ((c : Thread nD τ), SemLoc.reg barS) 0 d) = _ from rest_bar S c)) $$ Hpay
  imod (Rounds.cell_close ER (rd S) (Set.mem_univ (K (c, kBar))) (fun h => h) (R := 0 + 1) (duties_later S (barCell c))) $$ [Hat] with Hz
  · isplitr; · iapply (inv_at S K (c, kBar)); iexact HR
    iexact Hat
  iapply Hk
  isplitl [HO]; · iexists _; iexact HO
  isplitl [Hp] <;> iassumption

/-- A wait for a transfer, nothing being owed: what the cell hands back. -/
theorem step_wait (x : (Fin 3 × Fin 4) ⊕ (Fin 3 × Fin 4)) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem (.inr x)) N K')
    {α : Type} {Q : α → sProp 𝕄} {k : PUnit → Prog (TpuEff nD τ sig (Elt F) Λ₀ .tc) α} :
    iprop(records S K ∗ owesX c 0 ∗ waitRes c x)
      ⊢ iprop(((owesX c 0 ∗ payOf S c (.inr x) 0 ∗ semVal (kcell (c, .inr x)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold owesX waitRes
  iintro ⟨#HR, ⟨%W, HO⟩, Hc, Hat⟩ Hk
  iapply (Rounds.wp_wait_rest_token 𝒱₀ ER (rd S) (c : Thread nD τ) none (κ := K (c, .inr x))
      hw (Set.mem_univ _) () (O := 0) (W := W) (R := 0) (m := 0) (T := ∅)
      (by rw [Nat.zero_add]; exact (expect_xfer S c x).symm)) $$ [Hc HO Hat]
  · isplitr; · iapply (inv_at S K (c, .inr x)); iexact HR
    isplitl [Hc]; · iexact Hc
    isplitl [HO]; · iexact HO
    isplitr; · rw [MayWait_zero]; iempintro
    iexact Hat
  iintro ⟨HO, Hat, -, Hpay⟩
  ihave Hp := (Entails.of_eq (rest_xfer S c x)) $$ Hpay
  imod (Rounds.cell_close ER (rd S) (Set.mem_univ (K (c, .inr x))) (fun h => h) (R := 0 + 1) (duties_later S (kcell (c, .inr x)))) $$ [Hat] with Hz
  · isplitr; · iapply (inv_at S K (c, .inr x)); iexact HR
    iexact Hat
  iapply Hk
  isplitl [HO]; · iexists _; iexact HO
  isplitl [Hp] <;> iassumption

/-- The two tokens of transfer `(j, b)`. -/
def sendToks (j : Fin 3) (b : Fin 4) : sProp 𝕄 := iprop(dutyTok ER (sndCell c j b) 0 0 ∗ dutyTok ER (dstCell c j b) 0 0)

/-- Transfer `(j, b)`: a third of block `b`, read into its slot at the device `j + 1` places on. -/
theorem step_send (j : Fin 3) (b : Fin 4) (n : Dev nD) (hn : n = peer c j) (O : CellTallies nD τ sig Unit)
    {hsc : (slotM j.rev b : Memref sig (Dev.tc n : Thread nD τ).2.kind .vmem S64x512 .bf16).view.ref.isScScratch = false}
    {hsrc : (sendM b).view.WordExact} {hdst : (slotM j.rev b).view.WordExact}
    {hsem : DmaTarget.Typed .vmem (.dma (rcvS j.rev b))
      (.remote (Dev.tc n : Thread nD τ) (slotM j.rev b : Memref sig (Dev.tc n : Thread nD τ).2.kind .vmem S64x512 .bf16) (.dma (sndS j b)) hsc)}
    {α : Type} {Q : α → sProp 𝕄} {k : PUnit → Prog (TpuEff nD τ sig (Elt F) Λ₀ .tc) α} :
    iprop(records S K ∗ owesX c (O + tallyAt (dstCell c j b) () N) ∗ blkPts c (shares3 fullShare j) b (S c)
        ∗ (∃ f, slotPts (peer c j) j.rev b f) ∗ sendToks c j b)
      ⊢ iprop(((owesX c O ∗ cred (tallyAt (sndCell c j b) () N))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (sendM b) (.remote (Dev.tc n : Thread nD τ) (slotM j.rev b) (.dma (sndS j b)) hsc) (.dma (rcvS j.rev b)) hsrc hdst hsem) k) Q) := by
  subst hn
  unfold owesX sendToks
  iintro ⟨#HR, ⟨%W, HO⟩, Hb, ⟨%f, Hs⟩, Ht1, Ht2⟩ Hk
  iapply (Rounds.wp_send_pointsTo 𝒱₀ ER (rd S) (c : Thread nD τ) none (κ₁ := K (c, kSnd j b)) (κ₂ := K (peer c j, kRcv j.rev b))
      (r₁ := 0) (r₂ := 0) (d₁ := 0) (d₂ := 0) (fd := f)
      ((Finset.ext_iff.mp (duties_eq S c (kSnd j b)) 0).mpr (Finset.mem_singleton_self _))
      ((Finset.ext_iff.mp (duties_eq S (peer c j) (kRcv j.rev b)) 0).mpr (Finset.mem_singleton_self _))
      () () N rfl (amount_eq S c (kSnd j b) 0 0) (amount_eq S (peer c j) (kRcv j.rev b) 0 0) O rfl (W := W)
      (Entails.of_eq (payload_eq S c (kSnd j b) 0 0).symm)
      (Entails.of_eq ((landing S c j b f).trans (payload_eq S (peer c j) (kRcv j.rev b) 0 0).symm))) $$ [HO Hb Hs Ht1 Ht2]
  · isplitr; · iapply (inv_at S K (c, kSnd j b)); iexact HR
    isplitr; · iapply (inv_at S K (peer c j, kRcv j.rev b)); iexact HR
    isplitl [Hb]; · unfold blkPts; iexact Hb
    isplitl [Hs]; · unfold slotPts; iexact Hs
    isplitl [HO]; · iexact HO
    isplitl [Ht1]; · iexact Ht1
    isplitr; · iapply (reached_at S K (c, kSnd j b)); iexact HR
    isplitl [Ht2]; · iexact Ht2
    iapply (reached_at S K (peer c j, kRcv j.rev b)); iexact HR
  iintro ⟨Hc, HO⟩
  iapply Hk
  isplitl [HO]; · iexists W; iexact HO
  iexact Hc

end Rules

end Cert.Attn

end
-- ==== Proof.Groups.lean ====
/-
The stretches of the body that repeat: a head's scores stored; a block stored and sent to the three other devices; the three
blocks that arrive awaited, added to the device's own and stored.
-/
module

public import proofs.«01_k».proof.Proof.Steps

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

abbrev scM : Memref sig .tc .vmem S2048x128 .f32 := Memref.whole cc0_scratch0
abbrev oM : Memref sig .tc .vmem S2x128x512 .f32 := Memref.whole cc0_stg5_0

theorem inbSc (i : Fin 16) : ∀ a, (![i.val * 128, 0] : Fin 2 → ℕ) a + S128x128.size a ≤ S2048x128.size a := by revert i; decide
theorem inbO (b : Fin 4) : ∀ a, (![b.val / 2, b.val % 2 * 64, 0] : Fin 3 → ℕ) a + S1x64x512.size a ≤ S2x128x512.size a := by
  revert b; decide
/-- The rows of head `i` in the score buffer; block `b` of the result's staging buffer. -/
abbrev rectSc (i : Fin 16) : Rect S2048x128 := Rect.unit (s := S2048x128) ![i.val * 128, 0] S128x128.size (inbSc i)
abbrev rectO (b : Fin 4) : Rect S2x128x512 := Rect.unit (s := S2x128x512) ![b.val / 2, b.val % 2 * 64, 0] S1x64x512.size (inbO b)

/-- The score buffer of device `c`, its first `n` heads those of `T`; -/
def scoresPts (c : Dev nD) (T : S2048x128.Idx → Elt F .f32) (n : ℕ) : sProp 𝕄 :=
  iprop(∃ f : S2048x128.Idx → Elt F .f32, ⌜∀ i : S2048x128.Idx, (i 0).val < n * 128 → f i = T i⌝ ∗ ((c : Thread nD τ).loc cc0_scratch0 ↦{fullShare} f))
/-- the result's staging buffer, its first `n` blocks those of `T`. -/
def outPts (c : Dev nD) (T : S2x128x512.Idx → Elt F .f32) (n : ℕ) : sProp 𝕄 :=
  iprop(∃ f : S2x128x512.Idx → Elt F .f32, ⌜∀ i : S2x128x512.Idx, (i 0).val * 2 + (i 1).val / 64 < n → f i = T i⌝
    ∗ ((c : Thread nD τ).loc cc0_stg5_0 ↦{fullShare} f))

/-- Head `i`'s scores are the rows of the score buffer they are stored to; -/
theorem score_rows (q k : FVec F S256x512 .f32) (i : Fin 16) (x : S128x128.Idx) : score q k i x = scores q k ((rectSc i).emb x) := by
  have h0 : (x 0).val < 128 := (x 0).isLt
  have e0 : (((rectSc i).emb x) 0).val = i.val * 128 + (x 0).val := show i.val * 128 + 1 * (x 0).val = _ by omega
  have e1 : (((rectSc i).emb x) 1).val = (x 1).val := show 0 + 1 * (x 1).val = _ by omega
  unfold scores
  congr 1
  · exact Fin.ext (show i.val = (((rectSc i).emb x) 0).val / 128 by omega)
  · funext a
    match a with
    | 0 => exact Fin.ext (show (x 0).val = (((rectSc i).emb x) 0).val % 128 by omega)
    | 1 => exact Fin.ext (show (x 1).val = (((rectSc i).emb x) 1).val by omega)
/-- a block of the sum the block of the staging buffer it is stored to; -/
theorem out_rows (g : Fin 4 → FVec F S64x512 .f32) (R : S3x4x64x512.Idx → Elt F .bf16) (b : Fin 4) (x : S1x64x512.Idx) :
    k0_pay48 (g b) (rM.view.readAt (Elt F) (rectR 0 b).toLoadRect R) (rM.view.readAt (Elt F) (rectR 1 b).toLoadRect R)
      (rM.view.readAt (Elt F) (rectR 2 b).toLoadRect R) x = outBuf g R ((rectO b).emb x) := by
  have h0 : (x 0).val < 1 := (x 0).isLt
  have h1 : (x 1).val < 64 := (x 1).isLt
  have hb := b.isLt
  have e0 : (((rectO b).emb x) 0).val = b.val / 2 := show b.val / 2 + 1 * (x 0).val = _ by omega
  have e1 : (((rectO b).emb x) 1).val = b.val % 2 * 64 + (x 1).val := show b.val % 2 * 64 + 1 * (x 1).val = _ by omega
  have e2 : (((rectO b).emb x) 2).val = (x 2).val := show 0 + 1 * (x 2).val = _ by omega
  have hB : (⟨(((rectO b).emb x) 0).val * 2 + (((rectO b).emb x) 1).val / 64, by omega⟩ : Fin 4) = b := Fin.ext (by simp only; omega)
  unfold outBuf
  simp only
  rw [hB]
  congr 1
  funext a
  match a with
  | 0 => exact Fin.ext (show (x 0).val = 0 by omega)
  | 1 => exact Fin.ext (show (x 1).val = (((rectO b).emb x) 1).val % 64 by omega)
  | 2 => exact Fin.ext (show (x 2).val = (((rectO b).emb x) 2).val by omega)
/-- a block sent the block of the send buffer. -/
theorem sent_rows (x : Vec F S2x128x512 .f32) (wq wo wk wv : Vec F S512x512 .f32) (b : Fin 4) (y : S1x64x512.Idx) :
    sent (own x wq wo wk wv b) y = sendBuf x wq wo wk wv ((rectS b).emb y) := by
  have h0 : (y 0).val < 1 := (y 0).isLt
  rw [emb_rectS]
  show _ = sent (own x wq wo wk wv b) (ix3 0 (y 1) (y 2))
  congr 1
  funext a
  match a with
  | 0 => exact Fin.ext (show (y 0).val = 0 by omega)
  | 1 => rfl
  | 2 => rfl

/-- What a load or a store of a block, and a load of a slot, touches. -/
theorem store_sub (b : Fin 4) : (sM.access (rectS b)).setOn Finset.univ ⊆ (sendM b).view.set := fun i hi =>
  (Finset.ext_iff.mp (set_sendM b) i).mpr ((Finset.ext_iff.mp (View.set_slice_whole cc0_scratch1 (rectS b)) i).mp hi)
theorem load_sub (b : Fin 4) : sM.view.setOn (rectS b).toLoadRect.set ⊆ (sendM b).view.set := fun i hi => by
  obtain ⟨x, hx, rfl⟩ := Finset.mem_map.mp hi
  exact (Finset.ext_iff.mp (set_sendM b) x).mpr hx
theorem slot_sub (s : Fin 3) (b : Fin 4) : rM.view.setOn (rectR s b).toLoadRect.set ⊆ (slotM s b).view.set := fun i hi => by
  obtain ⟨x, hx, rfl⟩ := Finset.mem_map.mp hi
  exact (Finset.ext_iff.mp (set_slotM s b) x).mpr hx

section Rules

variable (c : Dev nD)

/-- Head `i`'s scores stored (what was there read first, for nothing). -/
theorem step_score (i : Fin 16) (n : ℕ) (hn : n = i.val) (T : S2048x128.Idx → Elt F .f32) {w : (rectSc i).shape.Idx → Elt F .f32}
    (hw : ∀ x, w x = T ((rectSc i).emb x)) {hl : scM.view.LoadsAt (rectSc i).toLoadRect}
    {hx : (scM.access (rectSc i)).Stores Finset.univ} {hm : (Finset.univ : Finset (rectSc i).shape.Idx) = Finset.univ ∨ ∀ a, (rectSc i).stride a = 1}
    {α : Type} {Q : α → sProp 𝕄} {k : PUnit → Prog (TpuEff nD τ sig (Elt F) Λ₀ .tc) α} :
    scoresPts c T n
      ⊢ iprop((scoresPts c T (n + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.load scM (rectSc i).toLoadRect hl) fun _ => .op (.store scM (rectSc i) w Finset.univ hx hm) k) Q) := by
  subst hn
  unfold scoresPts
  iintro ⟨%f, %hf, Hf⟩ Hk
  iapply (wp_load 𝒱₀ (c : Thread nD τ) none Set.univ (m := scM) (Finset.subset_univ _)) $$ Hf; iintro Hf
  iapply (wp_store 𝒱₀ (c : Thread nD τ) none Set.univ (m := scM) (r := rectSc i) (Mk := Finset.univ) (Finset.subset_univ _)) $$ Hf; iintro Hf
  iapply Hk
  iexists _
  isplitr
  rotate_left
  · iexact Hf
  · ipureintro
    intro y hy
    refine write_agrees (scM.access (rectSc i)) f T w (fun y => ((y : S2048x128.Idx) 0).val < i.val * 128) hf hw y ?_
    by_cases h : (y 0).val < i.val * 128
    · exact .inl h
    · refine .inr ((Finset.ext_iff.mp (View.set_slice_whole cc0_scratch0 (rectSc i)) y).mpr (Rect.mem_set_unit.mpr fun a => ?_))
      match a with
      | 0 => exact ⟨show i.val * 128 ≤ (y 0).val by omega, show (y 0).val < i.val * 128 + 128 by omega⟩
      | 1 => exact ⟨Nat.zero_le _, show (y 1).val < 0 + 128 by have : (y 1).val < 128 := (y 1).isLt; omega⟩

/-- The wait for three blocks, and they and the device's own added and stored. -/
theorem step_gather (S : Dev nD → S4x64x512.Idx → Elt F .bf16) (K : Dev nD × CK → ℕ) (b : Fin 4) (n : ℕ) (hn : n = b.val) (g : Fin 4 → FVec F S64x512 .f32)
    {w : Vec F S1x1x64x512 .bf16 → Vec F S1x1x64x512 .bf16 → Vec F S1x1x64x512 .bf16 → (rectO b).shape.Idx → Elt F .f32}
    (hw : w = k0_pay48 (g b))
    {hs0 hs1 hs2 : (sendM b).view.WordExact} {hd0 : (slotM 0 b).view.WordExact} {hd1 : (slotM 1 b).view.WordExact} {hd2 : (slotM 2 b).view.WordExact}
    {hl0 : rM.view.LoadsAt (rectR 0 b).toLoadRect} {hl1 : rM.view.LoadsAt (rectR 1 b).toLoadRect} {hl2 : rM.view.LoadsAt (rectR 2 b).toLoadRect}
    {hl : oM.view.LoadsAt (rectO b).toLoadRect}
    {hx : (oM.access (rectO b)).Stores Finset.univ} {hm : (Finset.univ : Finset (rectO b).shape.Idx) = Finset.univ ∨ ∀ a, (rectO b).stride a = 1}
    {α : Type} {Q : α → sProp 𝕄} {k : PUnit → Prog (TpuEff nD τ sig (Elt F) Λ₀ .tc) α} :
    iprop(records S K ∗ owesX c 0 ∗ (bigSep Finset.univ fun s : Fin 3 => waitRes c (.inr (s, b))) ∗ outPts c (outBuf g (landed S c)) n)
      ⊢ iprop(((owesX c 0 ∗ (bigSep Finset.univ fun s : Fin 3 => iprop(slotPts c s b (landed S c) ∗ semVal (rcvCell c s b) 0))
            ∗ outPts c (outBuf g (landed S c)) (n + 1))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 (rcvS 0 b) (sendM b) (slotM 0 b) hs0 hd0) fun _ => .op (.waitDma2 (rcvS 1 b) (sendM b) (slotM 1 b) hs1 hd1) fun _ =>
              .op (.waitDma2 (rcvS 2 b) (sendM b) (slotM 2 b) hs2 hd2) fun _ =>
              .op (.load rM (rectR 0 b).toLoadRect hl0) fun r0 => .op (.load rM (rectR 1 b).toLoadRect hl1) fun r1 =>
              .op (.load rM (rectR 2 b).toLoadRect hl2) fun r2 =>
              .op (.load oM (rectO b).toLoadRect hl) fun _ => .op (.store oM (rectO b) (w r0 r1 r2) Finset.univ hx hm) k) Q) := by
  subst hw hn
  unfold outPts
  simp only [bigSep_fin3]
  iintro ⟨#HR, HO, ⟨Hw0, Hw1, Hw2⟩, %f, %hf, Hf⟩ Hk
  iapply (step_wait S K c (.inr (0, b)) (wpE_waitDma2_eq (sem := rcvS 0 b) (src := sendM b) (dst := slotM 0 b) (hsrc := hs0) (hdst := hd0) 𝒱₀ (c : Thread nD τ) none Set.univ)) $$ [HO Hw0]
  · isplitr; · iexact HR
    isplitl [HO] <;> iassumption
  iintro ⟨HO, Hs0, Hz0⟩
  iapply (step_wait S K c (.inr (1, b)) (wpE_waitDma2_eq (sem := rcvS 1 b) (src := sendM b) (dst := slotM 1 b) (hsrc := hs1) (hdst := hd1) 𝒱₀ (c : Thread nD τ) none Set.univ)) $$ [HO Hw1]
  · isplitr; · iexact HR
    isplitl [HO] <;> iassumption
  iintro ⟨HO, Hs1, Hz1⟩
  iapply (step_wait S K c (.inr (2, b)) (wpE_waitDma2_eq (sem := rcvS 2 b) (src := sendM b) (dst := slotM 2 b) (hsrc := hs2) (hdst := hd2) 𝒱₀ (c : Thread nD τ) none Set.univ)) $$ [HO Hw2]
  · isplitr; · iexact HR
    isplitl [HO] <;> iassumption
  iintro ⟨HO, Hs2, Hz2⟩
  dsimp only [payOf, slotPts]
  iapply (wp_load 𝒱₀ (c : Thread nD τ) none Set.univ (m := rM) (r := (rectR 0 b).toLoadRect) (slot_sub 0 b)) $$ Hs0; iintro Hs0
  iapply (wp_load 𝒱₀ (c : Thread nD τ) none Set.univ (m := rM) (r := (rectR 1 b).toLoadRect) (slot_sub 1 b)) $$ Hs1; iintro Hs1
  iapply (wp_load 𝒱₀ (c : Thread nD τ) none Set.univ (m := rM) (r := (rectR 2 b).toLoadRect) (slot_sub 2 b)) $$ Hs2; iintro Hs2
  iapply (wp_load 𝒱₀ (c : Thread nD τ) none Set.univ (m := oM) (Finset.subset_univ _)) $$ Hf; iintro Hf
  iapply (wp_store 𝒱₀ (c : Thread nD τ) none Set.univ (m := oM) (r := rectO b) (Mk := Finset.univ) (Finset.subset_univ _)) $$ Hf; iintro Hf
  iapply Hk
  isplitl [HO]; · iexact HO
  isplitl [Hs0 Hs1 Hs2 Hz0 Hz1 Hz2]
  · isplitl [Hs0 Hz0]; · isplitl [Hs0] <;> iassumption
    isplitl [Hs1 Hz1]; · isplitl [Hs1] <;> iassumption
    isplitl [Hs2] <;> iassumption
  iexists _
  isplitr
  rotate_left
  · iexact Hf
  · ipureintro
    intro y hy
    refine write_agrees (oM.access (rectO b)) f (outBuf g (landed S c)) _ (fun y => ((y : S2x128x512.Idx) 0).val * 2 + ((y : S2x128x512.Idx) 1).val / 64 < b.val) hf
      (fun x => out_rows g (landed S c) b x) y ?_
    by_cases h : (y 0).val * 2 + (y 1).val / 64 < b.val
    · exact .inl h
    · refine .inr ((Finset.ext_iff.mp (View.set_slice_whole cc0_stg5_0 (rectO b)) y).mpr (Rect.mem_set_unit.mpr fun a => ?_))
      have h1 : (y 1).val < 128 := (y 1).isLt
      match a with
      | 0 => exact ⟨show b.val / 2 ≤ (y 0).val by omega, show (y 0).val < b.val / 2 + 1 by omega⟩
      | 1 => exact ⟨show b.val % 2 * 64 ≤ (y 1).val by omega, show (y 1).val < b.val % 2 * 64 + 64 by omega⟩
      | 2 => exact ⟨Nat.zero_le _, show (y 2).val < 0 + 512 by have : (y 2).val < 512 := (y 2).isLt; omega⟩

/-- A block stored (what was there read first, for nothing). -/
theorem step_block (b : Fin 4) (T f : S4x64x512.Idx → Elt F .bf16) {w : (rectS b).shape.Idx → Elt F .bf16}
    (hw : ∀ x, w x = T ((rectS b).emb x)) {hl : sM.view.LoadsAt (rectS b).toLoadRect}
    {hx : (sM.access (rectS b)).Stores Finset.univ} {hm : (Finset.univ : Finset (rectS b).shape.Idx) = Finset.univ ∨ ∀ a, (rectS b).stride a = 1}
    {α : Type} {Q : α → sProp 𝕄} {k : PUnit → Prog (TpuEff nD τ sig (Elt F) Λ₀ .tc) α} :
    blkPts c fullShare b f
      ⊢ iprop((blkPts c fullShare b T -∗ wp frame (wpE (defs₀ (F := F)) 𝒱₀ (c : Thread nD τ) none) Set.univ (k ⟨⟩) Q)
          -∗ wp frame (wpE (defs₀ (F := F)) 𝒱₀ (c : Thread nD τ) none) Set.univ
            (.op (.load sM (rectS b).toLoadRect hl) fun _ => .op (.store sM (rectS b) w Finset.univ hx hm) k) Q) := by
  unfold blkPts
  iintro Hf Hk
  iapply (wp_load 𝒱₀ (c : Thread nD τ) none Set.univ (m := sM) (r := (rectS b).toLoadRect) (load_sub b)) $$ Hf; iintro Hf
  iapply (wp_store 𝒱₀ (c : Thread nD τ) none Set.univ (m := sM) (r := rectS b) (Mk := Finset.univ) (store_sub b)) $$ Hf; iintro Hf
  iapply Hk
  have hT : ((sendM b).view.loc (c : Thread nD τ) ↦[(sendM b).view.set]{fullShare} ((sM.access (rectS b)).write (Elt F) f w Finset.univ) : sProp 𝕄)
      = ((sendM b).view.loc (c : Thread nD τ) ↦[(sendM b).view.set]{fullShare} T) := pointsTo_congr fun i hi =>
    write_agrees (sM.access (rectS b)) f T w (fun _ => False) (fun _ h => h.elim) hw i
      (.inr ((Finset.ext_iff.mp (View.set_slice_whole cc0_scratch1 (rectS b)) i).mpr ((Finset.ext_iff.mp (set_sendM b) i).mp hi)))
  iapply (Entails.of_eq hT); iexact Hf

/-- A block sent to the three other devices. -/
theorem step_sends (S : Dev nD → S4x64x512.Idx → Elt F .bf16) (K : Dev nD × CK → ℕ) (b : Fin 4) (n0 n1 n2 : Dev nD)
    (hn0 : n0 = peer c 0) (hn1 : n1 = peer c 1) (hn2 : n2 = peer c 2) (O : CellTallies nD τ sig Unit)
    {hc0 : (slotM 2 b : Memref sig (Dev.tc n0 : Thread nD τ).2.kind .vmem S64x512 .bf16).view.ref.isScScratch = false}
    {hc1 : (slotM 1 b : Memref sig (Dev.tc n1 : Thread nD τ).2.kind .vmem S64x512 .bf16).view.ref.isScScratch = false}
    {hc2 : (slotM 0 b : Memref sig (Dev.tc n2 : Thread nD τ).2.kind .vmem S64x512 .bf16).view.ref.isScScratch = false}
    {hs0 hs1 hs2 : (sendM b).view.WordExact} {hd0 : (slotM 2 b).view.WordExact} {hd1 : (slotM 1 b).view.WordExact} {hd2 : (slotM 0 b).view.WordExact}
    {ht0 : DmaTarget.Typed .vmem (.dma (rcvS 2 b))
      (.remote (Dev.tc n0 : Thread nD τ) (slotM 2 b : Memref sig (Dev.tc n0 : Thread nD τ).2.kind .vmem S64x512 .bf16) (.dma (sndS 0 b)) hc0)}
    {ht1 : DmaTarget.Typed .vmem (.dma (rcvS 1 b))
      (.remote (Dev.tc n1 : Thread nD τ) (slotM 1 b : Memref sig (Dev.tc n1 : Thread nD τ).2.kind .vmem S64x512 .bf16) (.dma (sndS 1 b)) hc1)}
    {ht2 : DmaTarget.Typed .vmem (.dma (rcvS 0 b))
      (.remote (Dev.tc n2 : Thread nD τ) (slotM 0 b : Memref sig (Dev.tc n2 : Thread nD τ).2.kind .vmem S64x512 .bf16) (.dma (sndS 2 b)) hc2)}
    {α : Type} {Q : α → sProp 𝕄} {k : PUnit → Prog (TpuEff nD τ sig (Elt F) Λ₀ .tc) α} :
    iprop(records S K ∗ owesX c (O + owedBlk c b) ∗ blkPts c fullShare b (S c)
        ∗ (bigSep Finset.univ fun j : Fin 3 => iprop((∃ f, slotPts (peer c j) j.rev b f) ∗ sendToks c j b)))
      ⊢ iprop(((owesX c O ∗ bigSep Finset.univ fun j : Fin 3 => cred (tallyAt (sndCell c j b) () N))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (sendM b) (.remote (Dev.tc n0 : Thread nD τ) (slotM 2 b) (.dma (sndS 0 b)) hc0) (.dma (rcvS 2 b)) hs0 hd0 ht0) fun _ =>
              .op (.enqueueDma (sendM b) (.remote (Dev.tc n1 : Thread nD τ) (slotM 1 b) (.dma (sndS 1 b)) hc1) (.dma (rcvS 1 b)) hs1 hd1 ht1) fun _ =>
              .op (.enqueueDma (sendM b) (.remote (Dev.tc n2 : Thread nD τ) (slotM 0 b) (.dma (sndS 2 b)) hc2) (.dma (rcvS 0 b)) hs2 hd2 ht2) k) Q) := by
  have hO : O + owedBlk c b = (O + tallyAt (dstCell c 2 b) () N + tallyAt (dstCell c 1 b) () N) + tallyAt (dstCell c 0 b) () N := by
    unfold owedBlk; rw [Fin.sum_univ_three]; ac_rfl
  rw [hO]
  simp only [bigSep_fin3]
  iintro ⟨#HR, HO, Hb, ⟨Hs0, Ht0⟩, ⟨Hs1, Ht1⟩, Hs2, Ht2⟩ Hk
  ihave Hb' := ((blk_thirds c b (S c)).1.trans (Entails.of_eq (bigSep_fin3 _))) $$ Hb
  icases Hb' with ⟨Hb0, Hb1, Hb2⟩
  iapply (step_send S K c 0 b n0 hn0 _) $$ [HO Hb0 Hs0 Ht0]
  · isplitr; · iexact HR
    isplitl [HO]; · iexact HO
    isplitl [Hb0]; · iexact Hb0
    isplitl [Hs0] <;> iassumption
  iintro ⟨HO, Hc0⟩
  iapply (step_send S K c 1 b n1 hn1 _) $$ [HO Hb1 Hs1 Ht1]
  · isplitr; · iexact HR
    isplitl [HO]; · iexact HO
    isplitl [Hb1]; · iexact Hb1
    isplitl [Hs1] <;> iassumption
  iintro ⟨HO, Hc1⟩
  iapply (step_send S K c 2 b n2 hn2 _) $$ [HO Hb2 Hs2 Ht2]
  · isplitr; · iexact HR
    isplitl [HO]; · iexact HO
    isplitl [Hb2]; · iexact Hb2
    isplitl [Hs2] <;> iassumption
  iintro ⟨HO, Hc2⟩
  iapply Hk
  isplitl [HO]; · iexact HO
  isplitl [Hc0]; · iexact Hc0
  isplitl [Hc1] <;> iassumption

/-- The waits for the three sends of a block: the block's own memory is back whole. -/
theorem step_sent (S : Dev nD → S4x64x512.Idx → Elt F .bf16) (K : Dev nD × CK → ℕ) (b : Fin 4)
    {hs0 : (slotM 2 b).view.WordExact} {hs1 : (slotM 1 b).view.WordExact} {hs2 : (slotM 0 b).view.WordExact} {hd0 hd1 hd2 : (sendM b).view.WordExact}
    {α : Type} {Q : α → sProp 𝕄} {k : PUnit → Prog (TpuEff nD τ sig (Elt F) Λ₀ .tc) α} :
    iprop(records S K ∗ owesX c 0 ∗ (bigSep Finset.univ fun j : Fin 3 => waitRes c (.inl (j, b))))
      ⊢ iprop(((owesX c 0 ∗ blkPts c fullShare b (S c) ∗ (bigSep Finset.univ fun j : Fin 3 => semVal (sndCell c j b) 0))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 (sndS 0 b) (slotM 2 b) (sendM b) hs0 hd0) fun _ => .op (.waitDma2 (sndS 1 b) (slotM 1 b) (sendM b) hs1 hd1) fun _ =>
              .op (.waitDma2 (sndS 2 b) (slotM 0 b) (sendM b) hs2 hd2) k) Q) := by
  simp only [bigSep_fin3]
  iintro ⟨#HR, HO, Hw0, Hw1, Hw2⟩ Hk
  iapply (step_wait S K c (.inl (0, b)) (wpE_waitDma2_eq (sem := sndS 0 b) (src := slotM 2 b) (dst := sendM b) (hsrc := hs0) (hdst := hd0) 𝒱₀ (c : Thread nD τ) none Set.univ)) $$ [HO Hw0]
  · isplitr; · iexact HR
    isplitl [HO] <;> iassumption
  iintro ⟨HO, Hs0, Hz0⟩
  iapply (step_wait S K c (.inl (1, b)) (wpE_waitDma2_eq (sem := sndS 1 b) (src := slotM 1 b) (dst := sendM b) (hsrc := hs1) (hdst := hd1) 𝒱₀ (c : Thread nD τ) none Set.univ)) $$ [HO Hw1]
  · isplitr; · iexact HR
    isplitl [HO] <;> iassumption
  iintro ⟨HO, Hs1, Hz1⟩
  iapply (step_wait S K c (.inl (2, b)) (wpE_waitDma2_eq (sem := sndS 2 b) (src := slotM 0 b) (dst := sendM b) (hsrc := hs2) (hdst := hd2) 𝒱₀ (c : Thread nD τ) none Set.univ)) $$ [HO Hw2]
  · isplitr; · iexact HR
    isplitl [HO] <;> iassumption
  iintro ⟨HO, Hs2, Hz2⟩
  dsimp only [payOf]
  iapply Hk
  isplitl [HO]; · iexact HO
  isplitl [Hs0 Hs1 Hs2]
  · iapply ((Entails.of_eq (bigSep_fin3 (F := F) (fun j => blkPts c (shares3 fullShare j) b (S c))).symm).trans (blk_thirds c b (S c)).2)
    isplitl [Hs0]; · iexact Hs0
    isplitl [Hs1] <;> iassumption
  isplitl [Hz0]; · iexact Hz0
  isplitl [Hz1] <;> iassumption

end Rules

end Cert.Attn

end
-- ==== Proof.Body.lean ====
/-
The body of the kernel on one device, effect by effect: from the tokens and positions the launch deals it to the result in
its staging buffer.
-/
module

public import proofs.«01_k».proof.Proof.Groups

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

/-- The devices the kernel addresses, by the number of places on. -/
theorem dev_peer0 (c : Dev nD) {n : ℕ} (h : n = (c.val + 1) % 4) (hn : n < nD) : (⟨n, hn⟩ : Dev nD) = peer c 0 := Fin.ext h
theorem dev_peer1 (c : Dev nD) {n : ℕ} (h : n = (c.val + 2) % 4) (hn : n < nD) : (⟨n, hn⟩ : Dev nD) = peer c 1 := Fin.ext h
theorem dev_peer2 (c : Dev nD) {n : ℕ} (h : n = (c.val + 3) % 4) (hn : n < nD) : (⟨n, hn⟩ : Dev nD) = peer c 2 := Fin.ext h

/-! ## The resources, regrouped -/

theorem owed_signals (c : Dev nD) : O₀ c = ((owedSend c + tallyAt (barCell (peer c 2)) () 1) + tallyAt (barCell (peer c 1)) () 1)
    + tallyAt (barCell (peer c 0)) () 1 := by
  unfold O₀; rw [Fin.sum_univ_three]; ac_rfl
theorem owed_sends (c : Dev nD) : owedSend c = (((0 + owedBlk c 3) + owedBlk c 2) + owedBlk c 1) + owedBlk c 0 := by
  unfold owedSend; rw [Fin.sum_univ_four, zero_add]; ac_rfl

/-- What the barrier hands over, by the block it is for. -/
theorem slots_around (c : Dev nD) : bigSep Finset.univ (barPay (F := F) c)
    ⊢ (bigSep Finset.univ fun b : Fin 4 => bigSep Finset.univ fun j : Fin 3 => iprop(∃ f, slotPts (F := F) (peer c j) j.rev b f)) := by
  rw [bigSep_fin3]
  simp only [bigSep_fin3, bigSep_fin4, barPay]
  iintro ⟨⟨A0, A1, A2, A3⟩, ⟨B0, B1, B2, B3⟩, C0, C1, C2, C3⟩
  isplitl [A0 B0 C0]
  · isplitl [C0]; · iexact C0
    isplitl [B0]; · iexact B0
    iexact A0
  isplitl [A1 B1 C1]
  · isplitl [C1]; · iexact C1
    isplitl [B1]; · iexact B1
    iexact A1
  isplitl [A2 B2 C2]
  · isplitl [C2]; · iexact C2
    isplitl [B2]; · iexact B2
    iexact A2
  isplitl [C3]; · iexact C3
  isplitl [B3]; · iexact B3
  iexact A3

/-- The landing buffer, slot by slot. -/
theorem slots_out (c : Dev nD) : iprop(∃ f, (c : Thread nD τ).loc cc0_scratch2 ↦{fullShare} f)
    ⊢ (bigSep Finset.univ fun j : Fin 3 => bigSep Finset.univ fun b : Fin 4 => iprop(∃ f, slotPts (F := F) c j b f)) := by
  iintro ⟨%f, Hf⟩
  rw [← bigSep_univ_prod (fun x : Fin 3 × Fin 4 => iprop(∃ f, slotPts (F := F) c x.1 x.2 f))]
  have h : (bigSep Finset.univ fun x : Fin 3 × Fin 4 => slotPts (F := F) c x.1 x.2 f)
      ⊢ (bigSep Finset.univ fun x : Fin 3 × Fin 4 => iprop(∃ f, slotPts (F := F) c x.1 x.2 f)) :=
    bigSep_mono fun x _ => exists_intro (Φ := fun f => slotPts (F := F) c x.1 x.2 f) f
  iapply ((Entails.of_eq (slots_split c f)).trans h)
  iexact Hf

/-- The slots back together, every receive cell closed. -/
theorem slots_in (c : Dev nD) (f : Buf (Elt F) ((c : Thread nD τ).loc cc0_scratch2)) :
    (bigSep Finset.univ fun b : Fin 4 => bigSep Finset.univ fun s : Fin 3 => iprop(slotPts (F := F) c s b f ∗ semVal (rcvCell c s b) 0))
      ⊢ iprop((∃ f, (c : Thread nD τ).loc cc0_scratch2 ↦{fullShare} f)
        ∗ bigSep Finset.univ fun b : Fin 4 => bigSep Finset.univ fun s : Fin 3 => semVal (rcvCell c s b) 0) := by
  have e : (bigSep Finset.univ fun b : Fin 4 => bigSep Finset.univ fun s : Fin 3 => slotPts (F := F) c s b f)
      = ((c : Thread nD τ).loc cc0_scratch2 ↦{fullShare} f : sProp 𝕄) := by
    rw [slots_split c f, ← bigSep_univ_prod (fun x : Fin 4 × Fin 3 => slotPts (F := F) c x.2 x.1 f)]
    exact bigSep_univ_equiv (Equiv.prodComm (Fin 3) (Fin 4)) (fun x : Fin 4 × Fin 3 => slotPts (F := F) c x.2 x.1 f)
  simp only [bigSep_sep']
  rw [e]
  iintro ⟨H, Hz⟩
  isplitl [H]; · iexists f; iexact H
  iexact Hz

/-- The score buffer when all heads are stored; the result's staging buffer when all blocks are. -/
theorem scores_full (c : Dev nD) (T : S2048x128.Idx → Elt F .f32) : scoresPts c T 16 ⊢ (c : Thread nD τ).loc cc0_scratch0 ↦{fullShare} T := by
  unfold scoresPts
  iintro ⟨%f, %hf, H⟩
  have e : f = T := funext fun i => hf i (by have h : (i 0).val < 2048 := (i 0).isLt; omega)
  subst e; iexact H
theorem out_full (c : Dev nD) (T : S2x128x512.Idx → Elt F .f32) : outPts c T 4 ⊢ (c : Thread nD τ).loc cc0_stg5_0 ↦{fullShare} T := by
  unfold outPts
  iintro ⟨%f, %hf, H⟩
  have e : f = T := funext fun i => hf i (by have h0 : (i 0).val < 2 := (i 0).isLt; have h1 : (i 1).val < 128 := (i 1).isLt; omega)
  subst e; iexact H
theorem scores_none (c : Dev nD) (T : S2048x128.Idx → Elt F .f32) : iprop(∃ f, (c : Thread nD τ).loc cc0_scratch0 ↦{fullShare} f) ⊢ scoresPts c T 0 := by
  unfold scoresPts
  iintro ⟨%f, H⟩
  iexists f; isplitr
  · ipureintro; intro i h; omega
  iexact H
theorem out_none (c : Dev nD) (T : S2x128x512.Idx → Elt F .f32) : iprop(∃ f, (c : Thread nD τ).loc cc0_stg5_0 ↦{fullShare} f) ⊢ outPts c T 0 := by
  unfold outPts
  iintro ⟨%f, H⟩
  iexists f; isplitr
  · ipureintro; intro i h; omega
  iexact H

theorem hz2 : (![0, 0] : Fin 2 → Nat) = fun _ => 0 := funext fun a => by fin_cases a <;> rfl
theorem hz3 : (![0, 0, 0] : Fin 3 → Nat) = fun _ => 0 := funext fun a => by fin_cases a <;> rfl

/-- A load whose value is known. -/
theorem step_read (c : Dev nD) {cs : CoreSpace} {s : Shape} {e : EltTy} {m : Memref sig .tc cs s e} {r : LoadRect s} {hl : m.view.LoadsAt r}
    {f : Buf (Elt F) (m.view.loc (c : Thread nD τ))} {v : r.shape.Idx → Elt F e} (hv : m.view.readAt (Elt F) r f = v)
    {α : Type} {Q : α → sProp 𝕄} {k : (r.shape.Idx → Elt F e) → Prog (TpuEff nD τ sig (Elt F) Λ₀ .tc) α} :
    (m.view.loc (c : Thread nD τ) ↦{fullShare} f)
      ⊢ iprop(((m.view.loc (c : Thread nD τ) ↦{fullShare} f) -∗ wp frame (wpE (defs₀ (F := F)) 𝒱₀ (c : Thread nD τ) none) Set.univ (k v) Q)
        -∗ wp frame (wpE (defs₀ (F := F)) 𝒱₀ (c : Thread nD τ) none) Set.univ (.op (.load m r hl) k) Q) := by
  subst hv
  exact wp_load (defs := defs₀ (F := F)) 𝒱₀ (c : Thread nD τ) none Set.univ (Finset.subset_univ _)

/-- A block of the send buffer is whole words, and so is a slot of the landing buffer. -/
theorem whole_rectS : ∀ b : Fin 4, (rectS b).WholeWords (EltTy.packing .bf16) := by decide
theorem whole_rectR : ∀ (s : Fin 3) (b : Fin 4), (rectR s b).WholeWords (EltTy.packing .bf16) := by decide
theorem words_sendM (b : Fin 4) : (sendM b).view.WordExact :=
  ((Memref.isWhole_whole cc0_scratch1).wordExact_slice rfl _ (whole_rectS b)).reshape _ _
theorem words_slotM (s : Fin 3) (b : Fin 4) : (slotM s b).view.WordExact :=
  ((Memref.isWhole_whole cc0_scratch2).wordExact_slice rfl _ (whole_rectR s b)).reshape _ _

section Body

-- What each device's staging buffers hold.
variable (x : Dev nD → Vec F S2x128x512 .f32) (wq wo wk wv : Dev nD → Vec F S512x512 .f32) (K : Dev nD × CK → ℕ)

/-- The send buffers. -/
def sends (c : Dev nD) : S4x64x512.Idx → Elt F .bf16 := sendBuf (x c) (wq c) (wo c) (wk c) (wv c)
/-- The result on device `c`. -/
def result (c : Dev nD) : S2x128x512.Idx → Elt F .f32 :=
  outBuf (own (x c) (wq c) (wo c) (wk c) (wv c)) (landed (sends x wq wo wk wv) c)

/-- The tokens, positions and credit of device `c`. -/
def dealt (c : Dev nD) : sProp 𝕄 :=
  iprop(atPos ER (barCell c) 0 ∅ 0
    ∗ (bigSep Finset.univ fun b : Fin 4 => bigSep Finset.univ fun j : Fin 3 => atPos ER (sndCell c j b) 0 ∅ 0)
    ∗ (bigSep Finset.univ fun b : Fin 4 => bigSep Finset.univ fun s : Fin 3 => atPos ER (rcvCell c s b) 0 ∅ 0)
    ∗ (bigSep Finset.univ fun j : Fin 3 => dutyTok ER (barCell (peer c j)) 0 j)
    ∗ (bigSep Finset.univ fun b : Fin 4 => bigSep Finset.univ fun j : Fin 3 => sendToks c j b))
/-- The credit of the waits for the others. -/
def credit (c : Dev nD) : sProp 𝕄 :=
  iprop(cred (tallyAt (barCell c) () 3)
    ∗ (bigSep Finset.univ fun b : Fin 4 => bigSep Finset.univ fun s : Fin 3 => cred (tallyAt (rcvCell c s b) () N)))
/-- The cells, closed. -/
def closed (c : Dev nD) : sProp 𝕄 :=
  iprop(semVal (barCell c) 0
    ∗ (bigSep Finset.univ fun b : Fin 4 => bigSep Finset.univ fun j : Fin 3 => semVal (sndCell c j b) 0)
    ∗ (bigSep Finset.univ fun b : Fin 4 => bigSep Finset.univ fun s : Fin 3 => semVal (rcvCell c s b) 0))
/-- The three scratch buffers, at anything. -/
def scratch (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f))
/-- The five staging buffers of the arguments. -/
def inputs (c : Dev nD) : sProp 𝕄 :=
  iprop(((c : Thread nD τ).loc cc0_stg0_0 ↦{fullShare} x c) ∗ ((c : Thread nD τ).loc cc0_stg1_0 ↦{fullShare} wq c)
    ∗ ((c : Thread nD τ).loc cc0_stg2_0 ↦{fullShare} wo c) ∗ ((c : Thread nD τ).loc cc0_stg3_0 ↦{fullShare} wk c)
    ∗ ((c : Thread nD τ).loc cc0_stg4_0 ↦{fullShare} wv c))

def before (c : Dev nD) : sProp 𝕄 :=
  iprop(records (sends x wq wo wk wv) K ∗ levAts L lv ∗ dealt c ∗ credit c ∗ scratch c ∗ owesX c (O₀ c) ∗ inputs x wq wo wk wv c
    ∗ ∃ f, (c : Thread nD τ).loc cc0_stg5_0 ↦{fullShare} f)
def afterwards (c : Dev nD) : sProp 𝕄 :=
  iprop(closed c ∗ scratch c ∗ owesX c 0 ∗ inputs x wq wo wk wv c ∗ ((c : Thread nD τ).loc cc0_stg5_0 ↦{fullShare} result x wq wo wk wv c))

set_option maxHeartbeats 4000000 in
theorem sound_body (c : Dev nD) (Kt : PUnit → sProp 𝕄) :
    iprop(before x wq wo wk wv K c ∗ (afterwards x wq wo wk wv c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part24_eq_skeleton]; unfold k0_part24_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel
    k0_part17_skel k0_part18_skel k0_part19_skel k0_part20_skel k0_part21_skel k0_part22_skel k0_part23_skel
  simp only [semSignalWord, semWaitWord, Prog.lift, Prog.bind_op, Prog.bind_ret, Prog.pure_eq_ret, wp_deviceId]
  unfold before dealt credit scratch inputs
  iintro ⟨⟨#HR, #Hlev, ⟨HatB, HatS, HatR, HtokB, Htoks⟩, ⟨HcB, HcR⟩, ⟨Hsc, Hsnd, Hrcv⟩, HO, ⟨Hx, Hq, Ho, Hk, Hv⟩, Hout⟩, HK⟩
  ihave Hsc := (scores_none c (scores (k0_pay2 (x c) (wq c)) (k0_pay3 (x c) (wk c)))) $$ Hsc
  iapply (step_read c (Memref.readAt_unit_zero (Elt F) cc0_stg0_0 hz3 _ _)) $$ Hx; iintro Hx
  iapply (step_read c (Memref.readAt_unit_zero (Elt F) cc0_stg1_0 hz2 _ _)) $$ Hq; iintro Hq
  iapply (step_read c (Memref.readAt_unit_zero (Elt F) cc0_stg3_0 hz2 _ _)) $$ Hk; iintro Hk
  iapply (step_read c (Memref.readAt_unit_zero (Elt F) cc0_stg4_0 hz2 _ _)) $$ Hv; iintro Hv
  iapply (step_score c 0 0 rfl (scores (k0_pay2 (x c) (wq c)) (k0_pay3 (x c) (wk c))) (score_rows _ _ 0)) $$ Hsc; iintro Hsc
  iapply (step_score c 1 1 rfl (scores (k0_pay2 (x c) (wq c)) (k0_pay3 (x c) (wk c))) (score_rows _ _ 1)) $$ Hsc; iintro Hsc
  iapply (step_score c 2 2 rfl (scores (k0_pay2 (x c) (wq c)) (k0_pay3 (x c) (wk c))) (score_rows _ _ 2)) $$ Hsc; iintro Hsc
  iapply (step_score c 3 3 rfl (scores (k0_pay2 (x c) (wq c)) (k0_pay3 (x c) (wk c))) (score_rows _ _ 3)) $$ Hsc; iintro Hsc
  iapply (step_score c 4 4 rfl (scores (k0_pay2 (x c) (wq c)) (k0_pay3 (x c) (wk c))) (score_rows _ _ 4)) $$ Hsc; iintro Hsc
  iapply (step_score c 5 5 rfl (scores (k0_pay2 (x c) (wq c)) (k0_pay3 (x c) (wk c))) (score_rows _ _ 5)) $$ Hsc; iintro Hsc
  iapply (step_score c 6 6 rfl (scores (k0_pay2 (x c) (wq c)) (k0_pay3 (x c) (wk c))) (score_rows _ _ 6)) $$ Hsc; iintro Hsc
  iapply (step_score c 7 7 rfl (scores (k0_pay2 (x c) (wq c)) (k0_pay3 (x c) (wk c))) (score_rows _ _ 7)) $$ Hsc; iintro Hsc
  iapply (step_score c 8 8 rfl (scores (k0_pay2 (x c) (wq c)) (k0_pay3 (x c) (wk c))) (score_rows _ _ 8)) $$ Hsc; iintro Hsc
  iapply (step_score c 9 9 rfl (scores (k0_pay2 (x c) (wq c)) (k0_pay3 (x c) (wk c))) (score_rows _ _ 9)) $$ Hsc; iintro Hsc
  iapply (step_score c 10 10 rfl (scores (k0_pay2 (x c) (wq c)) (k0_pay3 (x c) (wk c))) (score_rows _ _ 10)) $$ Hsc; iintro Hsc
  iapply (step_score c 11 11 rfl (scores (k0_pay2 (x c) (wq c)) (k0_pay3 (x c) (wk c))) (score_rows _ _ 11)) $$ Hsc; iintro Hsc
  iapply (step_score c 12 12 rfl (scores (k0_pay2 (x c) (wq c)) (k0_pay3 (x c) (wk c))) (score_rows _ _ 12)) $$ Hsc; iintro Hsc
  iapply (step_score c 13 13 rfl (scores (k0_pay2 (x c) (wq c)) (k0_pay3 (x c) (wk c))) (score_rows _ _ 13)) $$ Hsc; iintro Hsc
  iapply (step_score c 14 14 rfl (scores (k0_pay2 (x c) (wq c)) (k0_pay3 (x c) (wk c))) (score_rows _ _ 14)) $$ Hsc; iintro Hsc
  iapply (step_score c 15 15 rfl (scores (k0_pay2 (x c) (wq c)) (k0_pay3 (x c) (wk c))) (score_rows _ _ 15)) $$ Hsc; iintro Hsc
  ihave Hsc := (scores_full c _) $$ Hsc
  iapply (step_read c (Memref.readAt_unit_zero (Elt F) cc0_scratch0 hz2 _ _)) $$ Hsc; iintro Hsc
  rw [owed_signals c]
  ihave Hrcv := ((slots_out c).trans (Entails.of_eq (bigSep_fin3 _))) $$ Hrcv
  icases Hrcv with ⟨Hr0, Hr1, Hr2⟩
  ihave HtokB := (Entails.of_eq (bigSep_fin3 _)) $$ HtokB
  icases HtokB with ⟨Htb0, Htb1, Htb2⟩
  iapply (step_signal (sends x wq wo wk wv) K c 0 _ (dev_peer0 c (k0_dev1_eq c) _) _ (by decide) _) $$ [HO Htb0 Hr0]
  · isplitr; · iexact HR
    isplitl [HO]; · iexact HO
    isplitl [Htb0] <;> iassumption
  iintro HO
  iapply (step_signal (sends x wq wo wk wv) K c 1 _ (dev_peer1 c (k0_dev2_eq c) _) _ (by decide) _) $$ [HO Htb1 Hr1]
  · isplitr; · iexact HR
    isplitl [HO]; · iexact HO
    isplitl [Htb1] <;> iassumption
  iintro HO
  iapply (step_signal (sends x wq wo wk wv) K c 2 _ (dev_peer2 c (k0_dev3_eq c) _) _ (by decide) _) $$ [HO Htb2 Hr2]
  · isplitr; · iexact HR
    isplitl [HO]; · iexact HO
    isplitl [Htb2] <;> iassumption
  iintro HO
  iapply (step_barrier (sends x wq wo wk wv) K c _ (by decide)) $$ [HO HcB HatB]
  · isplitr; · iexact HR
    isplitr; · iexact Hlev
    isplitl [HO]; · iexact HO
    isplitl [HcB] <;> iassumption
  iintro ⟨HO, Hpay, HzB⟩
  ihave Hpay := ((slots_around c).trans (Entails.of_eq (bigSep_fin4 _))) $$ Hpay
  icases Hpay with ⟨Hp0, Hp1, Hp2, Hp3⟩
  ihave Htoks := (Entails.of_eq (bigSep_fin4 _)) $$ Htoks
  icases Htoks with ⟨Ht0, Ht1, Ht2, Ht3⟩
  icases Hsnd with ⟨%fs, Hsnd⟩
  ihave Hsnd := (Entails.of_eq ((sends_split c fs).trans (bigSep_fin4 _))) $$ Hsnd
  icases Hsnd with ⟨Hb0, Hb1, Hb2, Hb3⟩
  rw [owed_sends c]
  iapply (step_read c (Memref.readAt_unit_zero (Elt F) cc0_stg2_0 hz2 _ _)) $$ Ho; iintro Ho
  iapply (step_block c 0 (sends x wq wo wk wv c) fs (fun y => sent_rows (x c) (wq c) (wo c) (wk c) (wv c) 0 y)) $$ Hb0; iintro Hb0
  ihave Hst := (Entails.of_eq (bigSep_sep' _ _ _).symm) $$ [Hp0 Ht0]
  · isplitl [Hp0] <;> iassumption
  iapply (step_sends c (sends x wq wo wk wv) K 0 _ _ _ (dev_peer0 c (k0_dev4_eq c) _) (dev_peer1 c (k0_dev5_eq c) _) (dev_peer2 c (k0_dev6_eq c) _) _) $$ [HO Hb0 Hst]
  · isplitr; · iexact HR
    isplitl [HO]; · iexact HO
    isplitl [Hb0] <;> iassumption
  iintro ⟨HO, Hcs0⟩
  iapply (step_read c (Memref.readAt_unit_zero (Elt F) cc0_stg2_0 hz2 _ _)) $$ Ho; iintro Ho
  iapply (step_block c 1 (sends x wq wo wk wv c) fs (fun y => sent_rows (x c) (wq c) (wo c) (wk c) (wv c) 1 y)) $$ Hb1; iintro Hb1
  ihave Hst := (Entails.of_eq (bigSep_sep' _ _ _).symm) $$ [Hp1 Ht1]
  · isplitl [Hp1] <;> iassumption
  iapply (step_sends c (sends x wq wo wk wv) K 1 _ _ _ (dev_peer0 c (k0_dev7_eq c) _) (dev_peer1 c (k0_dev8_eq c) _) (dev_peer2 c (k0_dev9_eq c) _) _) $$ [HO Hb1 Hst]
  · isplitr; · iexact HR
    isplitl [HO]; · iexact HO
    isplitl [Hb1] <;> iassumption
  iintro ⟨HO, Hcs1⟩
  iapply (step_read c (Memref.readAt_unit_zero (Elt F) cc0_stg2_0 hz2 _ _)) $$ Ho; iintro Ho
  iapply (step_block c 2 (sends x wq wo wk wv c) fs (fun y => sent_rows (x c) (wq c) (wo c) (wk c) (wv c) 2 y)) $$ Hb2; iintro Hb2
  ihave Hst := (Entails.of_eq (bigSep_sep' _ _ _).symm) $$ [Hp2 Ht2]
  · isplitl [Hp2] <;> iassumption
  iapply (step_sends c (sends x wq wo wk wv) K 2 _ _ _ (dev_peer0 c (k0_dev10_eq c) _) (dev_peer1 c (k0_dev11_eq c) _) (dev_peer2 c (k0_dev12_eq c) _) _) $$ [HO Hb2 Hst]
  · isplitr; · iexact HR
    isplitl [HO]; · iexact HO
    isplitl [Hb2] <;> iassumption
  iintro ⟨HO, Hcs2⟩
  iapply (step_read c (Memref.readAt_unit_zero (Elt F) cc0_stg2_0 hz2 _ _)) $$ Ho; iintro Ho
  iapply (step_block c 3 (sends x wq wo wk wv c) fs (fun y => sent_rows (x c) (wq c) (wo c) (wk c) (wv c) 3 y)) $$ Hb3; iintro Hb3
  ihave Hst := (Entails.of_eq (bigSep_sep' _ _ _).symm) $$ [Hp3 Ht3]
  · isplitl [Hp3] <;> iassumption
  iapply (step_sends c (sends x wq wo wk wv) K 3 _ _ _ (dev_peer0 c (k0_dev13_eq c) _) (dev_peer1 c (k0_dev14_eq c) _) (dev_peer2 c (k0_dev15_eq c) _) _) $$ [HO Hb3 Hst]
  · isplitr; · iexact HR
    isplitl [HO]; · iexact HO
    isplitl [Hb3] <;> iassumption
  iintro ⟨HO, Hcs3⟩
  ihave HcR := (Entails.of_eq (bigSep_fin4 _)) $$ HcR
  icases HcR with ⟨Hcr0, Hcr1, Hcr2, Hcr3⟩
  ihave HatR := (Entails.of_eq (bigSep_fin4 _)) $$ HatR
  icases HatR with ⟨Har0, Har1, Har2, Har3⟩
  ihave HatS := (Entails.of_eq (bigSep_fin4 _)) $$ HatS
  icases HatS with ⟨Has0, Has1, Has2, Has3⟩
  ihave Hout := (out_none c (result x wq wo wk wv c)) $$ Hout
  ihave Hw := (Entails.of_eq (bigSep_sep' _ _ _).symm) $$ [Hcr0 Har0]
  · isplitl [Hcr0] <;> iassumption
  iapply (step_gather c (sends x wq wo wk wv) K 0 0 rfl (own (x c) (wq c) (wo c) (wk c) (wv c)) rfl
      (hs0 := words_sendM 0) (hs1 := words_sendM 0) (hs2 := words_sendM 0) (hd0 := words_slotM 0 0) (hd1 := words_slotM 1 0) (hd2 := words_slotM 2 0)) $$ [HO Hw Hout]
  · isplitr; · iexact HR
    isplitl [HO]; · iexact HO
    isplitl [Hw]; · iexact Hw
    iexact Hout
  iintro ⟨HO, Hg0, Hout⟩
  ihave Hw := (Entails.of_eq (bigSep_sep' _ _ _).symm) $$ [Hcr1 Har1]
  · isplitl [Hcr1] <;> iassumption
  iapply (step_gather c (sends x wq wo wk wv) K 1 1 rfl (own (x c) (wq c) (wo c) (wk c) (wv c)) rfl
      (hs0 := words_sendM 1) (hs1 := words_sendM 1) (hs2 := words_sendM 1) (hd0 := words_slotM 0 1) (hd1 := words_slotM 1 1) (hd2 := words_slotM 2 1)) $$ [HO Hw Hout]
  · isplitr; · iexact HR
    isplitl [HO]; · iexact HO
    isplitl [Hw]; · iexact Hw
    iexact Hout
  iintro ⟨HO, Hg1, Hout⟩
  ihave Hw := (Entails.of_eq (bigSep_sep' _ _ _).symm) $$ [Hcr2 Har2]
  · isplitl [Hcr2] <;> iassumption
  iapply (step_gather c (sends x wq wo wk wv) K 2 2 rfl (own (x c) (wq c) (wo c) (wk c) (wv c)) rfl
      (hs0 := words_sendM 2) (hs1 := words_sendM 2) (hs2 := words_sendM 2) (hd0 := words_slotM 0 2) (hd1 := words_slotM 1 2) (hd2 := words_slotM 2 2)) $$ [HO Hw Hout]
  · isplitr; · iexact HR
    isplitl [HO]; · iexact HO
    isplitl [Hw]; · iexact Hw
    iexact Hout
  iintro ⟨HO, Hg2, Hout⟩
  ihave Hw := (Entails.of_eq (bigSep_sep' _ _ _).symm) $$ [Hcr3 Har3]
  · isplitl [Hcr3] <;> iassumption
  iapply (step_gather c (sends x wq wo wk wv) K 3 3 rfl (own (x c) (wq c) (wo c) (wk c) (wv c)) rfl
      (hs0 := words_sendM 3) (hs1 := words_sendM 3) (hs2 := words_sendM 3) (hd0 := words_slotM 0 3) (hd1 := words_slotM 1 3) (hd2 := words_slotM 2 3)) $$ [HO Hw Hout]
  · isplitr; · iexact HR
    isplitl [HO]; · iexact HO
    isplitl [Hw]; · iexact Hw
    iexact Hout
  iintro ⟨HO, Hg3, Hout⟩
  ihave Hw := (Entails.of_eq (bigSep_sep' _ _ _).symm) $$ [Hcs0 Has0]
  · isplitl [Hcs0] <;> iassumption
  iapply (step_sent c (sends x wq wo wk wv) K 0 (hd0 := words_sendM 0) (hd1 := words_sendM 0) (hd2 := words_sendM 0)
      (hs0 := words_slotM 2 0) (hs1 := words_slotM 1 0) (hs2 := words_slotM 0 0)) $$ [HO Hw]
  · isplitr; · iexact HR
    isplitl [HO]; · iexact HO
    iexact Hw
  iintro ⟨HO, Hb0, Hz0⟩
  ihave Hw := (Entails.of_eq (bigSep_sep' _ _ _).symm) $$ [Hcs1 Has1]
  · isplitl [Hcs1] <;> iassumption
  iapply (step_sent c (sends x wq wo wk wv) K 1 (hd0 := words_sendM 1) (hd1 := words_sendM 1) (hd2 := words_sendM 1)
      (hs0 := words_slotM 2 1) (hs1 := words_slotM 1 1) (hs2 := words_slotM 0 1)) $$ [HO Hw]
  · isplitr; · iexact HR
    isplitl [HO]; · iexact HO
    iexact Hw
  iintro ⟨HO, Hb1, Hz1⟩
  ihave Hw := (Entails.of_eq (bigSep_sep' _ _ _).symm) $$ [Hcs2 Has2]
  · isplitl [Hcs2] <;> iassumption
  iapply (step_sent c (sends x wq wo wk wv) K 2 (hd0 := words_sendM 2) (hd1 := words_sendM 2) (hd2 := words_sendM 2)
      (hs0 := words_slotM 2 2) (hs1 := words_slotM 1 2) (hs2 := words_slotM 0 2)) $$ [HO Hw]
  · isplitr; · iexact HR
    isplitl [HO]; · iexact HO
    iexact Hw
  iintro ⟨HO, Hb2, Hz2⟩
  ihave Hw := (Entails.of_eq (bigSep_sep' _ _ _).symm) $$ [Hcs3 Has3]
  · isplitl [Hcs3] <;> iassumption
  iapply (step_sent c (sends x wq wo wk wv) K 3 (hd0 := words_sendM 3) (hd1 := words_sendM 3) (hd2 := words_sendM 3)
      (hs0 := words_slotM 2 3) (hs1 := words_slotM 1 3) (hs2 := words_slotM 0 3)) $$ [HO Hw]
  · isplitr; · iexact HR
    isplitl [HO]; · iexact HO
    iexact Hw
  iintro ⟨HO, Hb3, Hz3⟩
  rw [wp_ret]
  imodintro
  iapply HK
  unfold afterwards closed scratch inputs
  ihave Hg := ((Entails.of_eq (bigSep_fin4 (F := F) (fun b => bigSep Finset.univ fun s : Fin 3 =>
      iprop(slotPts (F := F) c s b (landed (sends x wq wo wk wv) c) ∗ semVal (rcvCell c s b) 0))).symm).trans (slots_in c _)) $$ [Hg0 Hg1 Hg2 Hg3]
  · isplitl [Hg0]; · iexact Hg0
    isplitl [Hg1]; · iexact Hg1
    isplitl [Hg2] <;> iassumption
  icases Hg with ⟨Hrcv, HzR⟩
  ihave Hz := (Entails.of_eq (bigSep_fin4 (F := F) (fun b => bigSep Finset.univ fun j : Fin 3 => semVal (sndCell c j b) 0)).symm) $$ [Hz0 Hz1 Hz2 Hz3]
  · isplitl [Hz0]; · iexact Hz0
    isplitl [Hz1]; · iexact Hz1
    isplitl [Hz2] <;> iassumption
  ihave Hsnd := (Entails.of_eq ((sends_split c (sends x wq wo wk wv c)).trans (bigSep_fin4 _)).symm) $$ [Hb0 Hb1 Hb2 Hb3]
  · isplitl [Hb0]; · iexact Hb0
    isplitl [Hb1]; · iexact Hb1
    isplitl [Hb2] <;> iassumption
  ihave Hout := (show outPts c (outBuf (own (x c) (wq c) (wo c) (wk c) (wv c)) (landed (sends x wq wo wk wv) c)) (3 + 1) ⊢ _ from
    out_full c (result x wq wo wk wv c)) $$ Hout
  isplitl [HzB Hz HzR]
  · isplitl [HzB]; · iexact HzB
    isplitl [Hz] <;> iassumption
  isplitl [Hsc Hsnd Hrcv]
  · isplitl [Hsc]; · iexists _; iexact Hsc
    isplitl [Hsnd]; · iexists _; iexact Hsnd
    iexact Hrcv
  isplitl [HO]; · iexact HO
  isplitl [Hx Hq Ho Hk Hv]
  · isplitl [Hx]; · iexact Hx
    isplitl [Hq]; · iexact Hq
    isplitl [Ho]; · iexact Ho
    isplitl [Hk] <;> iassumption
  iexact Hout

end Body

end Cert.Attn

end
-- ==== Proof.Data.lean ====
/-
What each device's pipeline is given and gives back, and the body's obligation: the launch's resources in, the result out.
-/
module

public import proofs.«01_k».proof.Proof.Body
public import proofs.«01_k».proof.Proof.Gen.KernelIdeal.Points

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The launch state. -/
def s₀ : MemSt nD τ sig (Elt F) := ⟨m, fun _ => 0, ρ⟩

/-- The arguments of each device: the input, and its slices of the four weights. -/
def argX (c : Dev nD) : Vec F S2x128x512 .f32 := m ((c : Thread nD τ).loc main_arg0)
def argQ (c : Dev nD) : Vec F S512x512 .f32 := m ((c : Thread nD τ).loc main_arg1)
def argK (c : Dev nD) : Vec F S512x512 .f32 := m ((c : Thread nD τ).loc main_arg2)
def argV (c : Dev nD) : Vec F S512x512 .f32 := m ((c : Thread nD τ).loc main_arg3)
def argO (c : Dev nD) : Vec F S512x512 .f32 := m ((c : Thread nD τ).loc main_arg4)

/-- The send buffers and the results of the run. -/
def sentOf : Dev nD → S4x64x512.Idx → Elt F .bf16 := sends (argX m) (argQ m) (argO m) (argK m) (argV m)
def resultOf : Dev nD → S2x128x512.Idx → Elt F .f32 := result (argX m) (argQ m) (argO m) (argK m) (argV m)

/-- What the body of device `c` starts from, besides its buffers. -/
def start (c : Dev nD) : sProp 𝕄 := iprop((∃ K, records (sentOf m) K ∗ dealt c) ∗ credit c ∗ levAts L lv)

/-- The proof data: the arguments stay, the result is the result's. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => argX m c
    | ⟨1, _⟩ => argQ m c
    | ⟨2, _⟩ => argO m c
    | ⟨3, _⟩ => argK m c
    | ⟨4, _⟩ => argV m c
    | ⟨5, _⟩ => resultOf m c
  Φ t := match t with
    | ⟨0, _⟩ => iprop(start m c ∗ scratch c)
    | ⟨_ + 1, _⟩ => iprop(closed c ∗ scratch c)
  q _ := fullShare
  owed t := match t with
    | ⟨0, _⟩ => O₀ c
    | ⟨_ + 1, _⟩ => 0

/-- What the windows hold at the body's start. -/
theorem before_0 (c : Dev nD) (d) : (dats m ρ 0 c).before (0 : Fin 6) t0_0 d = argX m c := by
  unfold Dat.before; rw [if_pos (fetch0_0 t0_0)]
  show (win0_0.blk (0 : Fin 1)).view.read (Elt F) (argX m c) = _
  exact Memref.read_access_unit_zero (Elt F) main_arg0 (funext fun a => by fin_cases a <;> rfl) _ (argX m c)
theorem before_1 (c : Dev nD) (d) : (dats m ρ 0 c).before (1 : Fin 6) t0_0 d = argQ m c := by
  unfold Dat.before; rw [if_pos (fetch0_1 t0_0)]
  show (win0_1.blk (0 : Fin 1)).view.read (Elt F) (argQ m c) = _
  exact Memref.read_access_unit_zero (Elt F) main_arg1 (funext fun a => by fin_cases a <;> rfl) _ (argQ m c)
theorem before_2 (c : Dev nD) (d) : (dats m ρ 0 c).before (2 : Fin 6) t0_0 d = argO m c := by
  unfold Dat.before; rw [if_pos (fetch0_2 t0_0)]
  show (win0_2.blk (0 : Fin 1)).view.read (Elt F) (argO m c) = _
  exact Memref.read_access_unit_zero (Elt F) main_arg4 (funext fun a => by fin_cases a <;> rfl) _ (argO m c)
theorem before_3 (c : Dev nD) (d) : (dats m ρ 0 c).before (3 : Fin 6) t0_0 d = argK m c := by
  unfold Dat.before; rw [if_pos (fetch0_3 t0_0)]
  show (win0_3.blk (0 : Fin 1)).view.read (Elt F) (argK m c) = _
  exact Memref.read_access_unit_zero (Elt F) main_arg2 (funext fun a => by fin_cases a <;> rfl) _ (argK m c)
theorem before_4 (c : Dev nD) (d) : (dats m ρ 0 c).before (4 : Fin 6) t0_0 d = argV m c := by
  unfold Dat.before; rw [if_pos (fetch0_4 t0_0)]
  show (win0_4.blk (0 : Fin 1)).view.read (Elt F) (argV m c) = _
  exact Memref.read_access_unit_zero (Elt F) main_arg3 (funext fun a => by fin_cases a <;> rfl) _ (argV m c)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer at `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

omit [FloatOps F] in
theorem stg_elim (c : Dev nD) (b : Ref sig .tc) {X Y : b.ty.Contents (Elt F)} (h : X = Y) :
    (stg c b X : sProp 𝕄) ⊢ (c : Thread nD τ).loc b ↦{fullShare} Y := by
  subst h
  iintro ⟨%f, %hf, H⟩
  subst hf; iexact H
omit [FloatOps F] in
theorem stg_intro (c : Dev nD) (b : Ref sig .tc) (X : b.ty.Contents (Elt F)) :
    ((c : Thread nD τ).loc b ↦{fullShare} X : sProp 𝕄) ⊢ stg c b X := by
  iintro H
  iexists X; isplitr
  · ipureintro; rfl
  iexact H
omit [FloatOps F] in
theorem stg_some (c : Dev nD) (b : Ref sig .tc) {D : Type} (X : D → b.ty.Contents (Elt F)) {Y : b.ty.Contents (Elt F)} (h : ∀ d, X d = Y) :
    (iprop(∃ d, stg c b (X d)) : sProp 𝕄) ⊢ (c : Thread nD τ).loc b ↦{fullShare} Y := by
  iintro ⟨%d, H⟩
  iapply (stg_elim c b (h d)); iexact H
omit [FloatOps F] in
theorem stg_any (c : Dev nD) (b : Ref sig .tc) {D : Type} (X : D → b.ty.Contents (Elt F)) :
    (iprop(∃ d, stg c b (X d)) : sProp 𝕄) ⊢ iprop(∃ f, (c : Thread nD τ).loc b ↦{fullShare} f) := by
  iintro ⟨%d, %f, -, H⟩
  iexists f; iexact H

/-- What the pipeline calls the body with, and what it takes back. -/
def bodyPre (c : Dev nD) : sProp 𝕄 :=
  iprop((start m c ∗ scratch c) ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop((closed c ∗ scratch c) ∗ (dats m ρ 0 c).owesAt () t0_0.succ
    ∗ stg c cc0_stg0_0 (argX m c) ∗ stg c cc0_stg1_0 (argQ m c) ∗ stg c cc0_stg2_0 (argO m c)
    ∗ stg c cc0_stg3_0 (argK m c) ∗ stg c cc0_stg4_0 (argV m c) ∗ stg c cc0_stg5_0 (resultOf m c))

theorem pre_before (c : Dev nD) : bodyPre m ρ c ⊢ iprop(∃ K, before (argX m) (argQ m) (argO m) (argK m) (argV m) K c) := by
  unfold bodyPre start before inputs owesX
  iintro ⟨⟨⟨⟨%K, HR, Hd⟩, Hc, Hlev⟩, Hs⟩, Ho, H0, H1, H2, H3, H4, H5⟩
  unfold Dat.owesAt Pipeline.owesWithin
  icases Ho with ⟨%W, %hW, HO⟩
  iexists K
  isplitl [HR]; · iexact HR
  isplitl [Hlev]; · iexact Hlev
  isplitl [Hd]; · iexact Hd
  isplitl [Hc]; · iexact Hc
  isplitl [Hs]; · iexact Hs
  isplitl [HO]; · iexists W; iexact HO
  isplitr [H5]
  · isplitl [H0]; · iapply (stg_some c cc0_stg0_0 _ (before_0 m ρ c)); iexact H0
    isplitl [H1]; · iapply (stg_some c cc0_stg1_0 _ (before_1 m ρ c)); iexact H1
    isplitl [H2]; · iapply (stg_some c cc0_stg2_0 _ (before_2 m ρ c)); iexact H2
    isplitl [H3]; · iapply (stg_some c cc0_stg3_0 _ (before_3 m ρ c)); iexact H3
    iapply (stg_some c cc0_stg4_0 _ (before_4 m ρ c)); iexact H4
  iapply (stg_any c cc0_stg5_0 _); iexact H5

theorem after_post (c : Dev nD) : afterwards (argX m) (argQ m) (argO m) (argK m) (argV m) c ⊢ bodyPost m ρ c := by
  unfold bodyPost afterwards inputs owesX
  iintro ⟨Hc, Hs, ⟨%W, HO⟩, ⟨H0, H1, H2, H3, H4⟩, H5⟩
  unfold Dat.owesAt Pipeline.owesWithin
  isplitl [Hc Hs]; · isplitl [Hc] <;> iassumption
  isplitl [HO]
  · iexists W; isplitr
    · ipureintro; exact fun _ _ => Or.inl trivial
    iexact HO
  isplitl [H0]; · iapply (stg_intro c cc0_stg0_0 _); iexact H0
  isplitl [H1]; · iapply (stg_intro c cc0_stg1_0 _); iexact H1
  isplitl [H2]; · iapply (stg_intro c cc0_stg2_0 _); iexact H2
  isplitl [H3]; · iapply (stg_intro c cc0_stg3_0 _); iexact H3
  isplitl [H4]; · iapply (stg_intro c cc0_stg4_0 _); iexact H4
  iapply (stg_intro c cc0_stg5_0 (resultOf m c)); iexact H5

set_option maxRecDepth 100000 in
/-- The body's obligation on device `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = _ from bigSep_W0, show ∀ Φ : Fin cfg0.W → sProp 𝕄, bigSep Finset.univ Φ = _ from bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => bodyPost m ρ c)
  iintro H
  ihave H := (pre_before m ρ c) $$ H
  icases H with ⟨%K, H⟩
  iapply (sound_body (argX m) (argQ m) (argO m) (argK m) (argV m) K c fun _ => bodyPost m ρ c)
  isplitl [H]; · iexact H
  iintro H
  iapply (after_post m ρ c); iexact H

end Cert.Attn

end
-- ==== Proof.Launch.lean ====
/-
The launch: the cells' invariants allocated, the tokens dealt to the devices that pay them, the credit of the waits, and the
run of the whole program on the four devices.
-/
module

public import proofs.«01_k».proof.Proof.Data
public import Idealize.ShloMosaic.Lib.Pipeline.CollectiveSegs

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Families over the cells and the devices -/

/-- The send and receive semaphores. -/
abbrev XK : Type := (Fin 3 × Fin 4) ⊕ (Fin 3 × Fin 4)
def osem (x : XK) : SemLoc sig := csem (.inr x)

theorem ownSemFacts : Pipeline.OwnSemFacts cfg0.spec osem := by decide +kernel

/-- A family over the transfers' cells, by block and by neighbour; -/
theorem by_xfer (Φ : XK → sProp 𝕄) : bigSep Finset.univ Φ
    = iprop((bigSep Finset.univ fun b : Fin 4 => bigSep Finset.univ fun j : Fin 3 => Φ (.inl (j, b)))
      ∗ bigSep Finset.univ fun b : Fin 4 => bigSep Finset.univ fun s : Fin 3 => Φ (.inr (s, b))) := by
  rw [bigSep_univ_sum, bigSep_univ_prod, bigSep_univ_prod, bigSep_univ_comm, bigSep_univ_comm fun s b => Φ (.inr (s, b))]
  rfl
/-- over all cells. -/
theorem by_kind (Φ : CK → sProp 𝕄) : bigSep Finset.univ Φ
    = iprop(Φ kBar ∗ (bigSep Finset.univ fun b : Fin 4 => bigSep Finset.univ fun j : Fin 3 => Φ (kSnd j b))
      ∗ bigSep Finset.univ fun b : Fin 4 => bigSep Finset.univ fun s : Fin 3 => Φ (kRcv s b)) := by
  rw [bigSep_univ_sum, by_xfer (F := F) fun x => Φ (.inr x), Finset.univ_unique, bigSep_singleton]
  rfl

/-- Going `j + 1` places on, as a permutation of the devices. -/
def peerE (j : Fin 3) : Dev nD ≃ Dev nD := ⟨fun c => peer c j, fun c => peer c j.rev, fun c => peer_rev c j, fun c => peer_rev' c j⟩

/-- A family over the devices and their neighbours, each device's members dealt to the neighbours; -/
theorem around (Φ : Dev nD → Fin 3 → sProp 𝕄) : (bigSep Finset.univ fun c : Dev nD => bigSep Finset.univ fun j : Fin 3 => Φ c j)
    = bigSep Finset.univ fun c : Dev nD => bigSep Finset.univ fun j : Fin 3 => Φ (peer c j) j := by
  rw [bigSep_univ_comm, bigSep_univ_comm fun (c : Dev nD) (j : Fin 3) => Φ (peer c j) j]
  exact bigSep_congr fun j _ => bigSep_univ_equiv (peerE j) fun c => Φ c j
/-- the same, the members numbered from the other end. -/
theorem around_rev (Φ : Dev nD → Fin 3 → sProp 𝕄) : (bigSep Finset.univ fun c : Dev nD => bigSep Finset.univ fun s : Fin 3 => Φ c s)
    = bigSep Finset.univ fun c : Dev nD => bigSep Finset.univ fun j : Fin 3 => Φ (peer c j) j.rev :=
  (bigSep_congr fun c _ => bigSep_univ_equiv Fin.revPerm fun s => Φ c s).trans (around fun c j => Φ c j.rev)
theorem around_blocks (Φ : Dev nD → Fin 3 → Fin 4 → sProp 𝕄) :
    (bigSep Finset.univ fun c : Dev nD => bigSep Finset.univ fun b : Fin 4 => bigSep Finset.univ fun s : Fin 3 => Φ c s b)
    = bigSep Finset.univ fun c : Dev nD => bigSep Finset.univ fun b : Fin 4 => bigSep Finset.univ fun j : Fin 3 => Φ (peer c j) j.rev b := by
  rw [bigSep_univ_comm, bigSep_univ_comm fun (c : Dev nD) (b : Fin 4) => bigSep Finset.univ fun j : Fin 3 => Φ (peer c j) j.rev b]
  exact bigSep_congr fun b _ => around_rev fun c s => Φ c s b

/-! ## The launch's ghost state -/

variable (m : (ℓ : Loc nD τ sig) → Buf (Elt F) ℓ) (ρ : Dev nD → PrngReg)

def allCells : Finset (GSem nD τ sig) := Finset.univ.map ⟨kcell, kcell_injective⟩

/-- The duty tokens: three of each barrier cell, one of each transfer's cell. -/
def tokOf : (Dev nD × (Fin 3 ⊕ XK)) → GSem nD τ sig × ℕ × Fin 3
  | (c, .inl d) => (barCell c, 0, d)
  | (c, .inr x) => (kcell (c, .inr x), 0, 0)
theorem tokOf_injective : Function.Injective tokOf := by
  rintro ⟨c, k⟩ ⟨c', k'⟩ h
  rcases k with d | x <;> rcases k' with d' | x' <;> have h1 := kcell_injective (congrArg Prod.fst h) <;> have h2 := congrArg (fun y => y.2.2) h
  · rw [(Prod.mk.inj h1).1, show d = d' from h2]
  · exact absurd (Prod.mk.inj h1).2 (by simp)
  · exact absurd (Prod.mk.inj h1).2 (by simp)
  · rw [(Prod.mk.inj h1).1, Sum.inr.inj (Prod.mk.inj h1).2]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun d : Fin 3 => dutyTok ER (barCell c) 0 d) ∗ bigSep Finset.univ fun x : XK => dutyTok ER (kcell (c, .inr x)) 0 0)

/-- What the launch deals device `c`, and what becomes of it. -/
def G (c : Dev nD) : sProp 𝕄 :=
  iprop((bigSep Finset.univ fun k : CK => roundState ER (rd (sentOf m)) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, records (sentOf m) K ∗ dealt c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (rd (sentOf m)) allCells allToks) $$ HX with ⟨Hst, Hr, Hat, Htok⟩
  imodintro
  ihave Hst' := (Entails.of_eq (hX fun g => roundState ER (rd (sentOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- The semaphores at zero are the cells'. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_univ_sum, Finset.univ_unique, bigSep_singleton]
  show _ ⊢ iprop(semVal (barCell c) 0 ∗ Pipeline.ownSems0 osem c)
  iintro ⟨HX, HB⟩
  isplitl [HB]; · iexact HB
  iexact HX

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd (sentOf m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd (sentOf m)) (kcell (c, k)) 0)
      ⊢ (|={Set.univ}=> bigSep Finset.univ fun k => iprop(∃ κ : ℕ, cellInv ER (rd (sentOf m)) κ (kcell (c, k))) : sProp 𝕄) from by
        rw [← bigSep_sep']
        exact (bigSep_mono fun k _ => (Rounds.body_intro ER (rd (sentOf m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Each device's positions, and the tokens it pays with: its own sends', and those of its neighbours' cells. -/
theorem deal : iprop((bigSep Finset.univ fun c : Dev nD => bigSep Finset.univ fun k : CK => (atPos ER (kcell (c, k)) 0 ∅ 0 : sProp 𝕄))
      ∗ bigSep Finset.univ fun c : Dev nD => toks c)
    ⊢ (bigSep Finset.univ fun c : Dev nD => dealt c : sProp 𝕄) := by
  unfold dealt toks sendToks
  simp only [by_kind, by_xfer, bigSep_sep']
  rw [around fun c d => (dutyTok ER (barCell c) 0 d : sProp 𝕄), around_blocks fun c s b => (dutyTok ER (rcvCell c s b) 0 0 : sProp 𝕄)]
  iintro ⟨⟨A1, A2, A3⟩, T1, T2, T3⟩
  isplitl [A1]; · iexact A1
  isplitl [A2]; · iexact A2
  isplitl [A3]; · iexact A3
  isplitl [T1]; · iexact T1
  isplitl [T2]; · iexact T2
  iexact T3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd (sentOf m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (rd (sentOf m)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd (sentOf m)) κ (kcell ck) : sProp 𝕄))) $$ HI
  icases HK with ⟨%K, #HI⟩
  ihave Hd := (deal (F := F)) $$ [Hat Htok]
  · isplitl [Hat] <;> iassumption
  iapply (bigSep_with_persistent (R := records (sentOf m) K) (Φ := fun c : Dev nD => dealt c) (Ψ := G' m) fun c _ => exists_intro (Φ := fun K => iprop(records (sentOf m) K ∗ dealt c)) K)
  isplitr
  · unfold records; isplitl; · iexact HI
    iexact HR
  iexact Hd

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the waits -/

theorem peer_iff {d c : Dev nD} {j : Fin 3} : peer d j = c ↔ d = peer c j.rev :=
  ⟨fun h => h ▸ (peer_rev d j).symm, fun h => h ▸ peer_rev' c j⟩

/-- What device `d` owes `c`'s barrier cell: a unit for each of its signals that goes there. -/
theorem owed_bar (d c : Dev nD) : O₀ d (barCell c) () = ∑ j : Fin 3, if d = peer c j.rev then 1 else 0 := by
  have h0 : owedSend d (barCell c) () = 0 := by
    unfold owedSend owedBlk
    simp only [Finset.sum_apply, Finsupp.coe_finset_sum, tallyAt_apply]
    refine Finset.sum_eq_zero fun b _ => Finset.sum_eq_zero fun j _ => if_neg fun h => ?_
    exact absurd (Prod.mk.inj (kcell_injective h.1)).2 (by simp [kBar, kRcv])
  unfold O₀
  rw [Pi.add_apply, Finsupp.add_apply, h0, Nat.zero_add]
  simp only [Finset.sum_apply, Finsupp.coe_finset_sum, tallyAt_apply]
  refine Finset.sum_congr rfl fun j _ => if_congr ?_ rfl rfl
  rw [← peer_iff]
  exact ⟨fun h => (Prod.mk.inj (kcell_injective h.1)).1.symm, fun h => ⟨by rw [h], trivial⟩⟩

/-- What `d` owes a receive cell of `c`: the whole transfer, if the cell is for `d`'s. -/
theorem owed_rcv (d c : Dev nD) (s : Fin 3) (b : Fin 4) : O₀ d (rcvCell c s b) () = if d = peer c s then N else 0 := by
  unfold O₀ owedSend owedBlk
  rw [Pi.add_apply, Finsupp.add_apply]
  simp only [Finset.sum_apply, Finsupp.coe_finset_sum, tallyAt_apply, and_true]
  rw [Finset.sum_eq_zero (s := Finset.univ) (f := fun j : Fin 3 => if rcvCell c s b = barCell (peer d j) then 1 else 0)
    (fun j _ => if_neg fun h => absurd (Prod.mk.inj (kcell_injective h)).2 (by simp [kBar, kRcv])), Nat.add_zero]
  have hi (b' : Fin 4) (j : Fin 3) : rcvCell c s b = dstCell d j b' ↔ (b' = b ∧ j = s.rev ∧ d = peer c s) := by
    constructor
    · intro h
      obtain ⟨h1, h2⟩ := Prod.mk.inj (kcell_injective h)
      obtain ⟨h3, h4⟩ := Prod.mk.inj (Sum.inr.inj (Sum.inr.inj h2))
      subst h3
      exact ⟨h4.symm, (Fin.rev_rev j).symm, peer_iff.mp h1.symm⟩
    · rintro ⟨rfl, rfl, rfl⟩
      unfold dstCell
      rw [Fin.rev_rev, peer_rev]
  simp only [hi]
  rw [Finset.sum_eq_single b (fun b' _ hb => Finset.sum_eq_zero fun j _ => if_neg fun h => hb h.1) (fun h => absurd (Finset.mem_univ _) h),
    Finset.sum_eq_single s.rev (fun j _ hj => if_neg fun h => hj h.2.1) (fun h => absurd (Finset.mem_univ _) h)]
  simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (peer c j.rev) fun _ => 1).trans (if_pos (Finset.mem_univ _))]
  rfl

theorem launch_rcv (c : Dev nD) (s : Fin 3) (b : Fin 4) :
    tallyOn (rcvCell c s b) (launchCredit (Pipeline.owing O₀) 0 (rcvCell c s b)) = (tallyAt (rcvCell c s b) () N : CellTallies nD τ sig Unit) := by
  unfold tallyAt; refine congrArg _ (Finsupp.ext fun u => ?_); cases u
  rw [Pipeline.launchCredit_owing, Finsupp.single_eq_same, Finset.sum_congr rfl fun d _ => owed_rcv d c s b,
    Finset.sum_ite_eq' Finset.univ (peer c s) fun _ => N, if_pos (Finset.mem_univ _)]

theorem creds (c : Dev nD) : (Pipeline.launchCred O₀ c : sProp 𝕄) ⊢ credit c := by
  unfold Pipeline.launchCred
  refine (bigSep_subset (Finset.subset_univ (Finset.univ.map ⟨csem, csem_injective⟩))).trans ?_
  rw [bigSep_map, by_kind]
  unfold credit
  show iprop(cred (tallyOn (barCell c) (launchCredit (Pipeline.owing O₀) 0 (barCell c)))
    ∗ (bigSep Finset.univ fun b : Fin 4 => bigSep Finset.univ fun j : Fin 3 => cred (tallyOn (sndCell c j b) (launchCredit (Pipeline.owing O₀) 0 (sndCell c j b))))
    ∗ bigSep Finset.univ fun b : Fin 4 => bigSep Finset.univ fun s : Fin 3 => cred (tallyOn (rcvCell c s b) (launchCredit (Pipeline.owing O₀) 0 (rcvCell c s b)))) ⊢ _
  iintro ⟨H1, -, H3⟩
  isplitl [H1]
  · iapply (Entails.of_eq (congrArg cred (launch_bar c))); iexact H1
  iapply (Entails.of_eq (bigSep_congr fun b _ => bigSep_congr fun s _ => congrArg cred (launch_rcv c s b))); iexact H3

/-! ## The run's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem scratch_eq (c : Dev nD) : (Pipeline.scopedRest cfg0.spec c : sProp 𝕄) = scratch c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scratch_eq]
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(closed c ∗ scratch c) from rfl, scratch_eq, unscopedSems0_eq,
    show Pipeline.ownSems0 osem c = (bigSep Finset.univ fun x : XK => semVal ((c.tc : Thread nD τ), osem x) 0 : sProp 𝕄) from rfl, by_xfer]
  unfold closed
  iintro ⟨⟨HB, HS, HR⟩, Hr⟩
  isplitl [HB]; · iexact HB
  isplitr [Hr]
  · isplitl [HS]; · iexact HS
    iexact HR
  iexact Hr

theorem share_eq (c : Dev nD) (w : Fin cfg0.W) : (dats (F := F) m ρ 0 c).share w = fullShare := by
  unfold Dat.share; split <;> rfl

theorem kindOf_none {sm : SemLoc sig} (h : ∀ k, csem k ≠ sm) : kindOf sm = none := by
  unfold kindOf Function.partialInv; exact dif_neg fun ⟨k, hk⟩ => h k hk

theorem waits (c : Dev nD) : (levAts L lv : sProp 𝕄) ⊢ Pipeline.cellsWaits cfgs (dats m ρ) () 0 c :=
  Pipeline.cellsWaits_intro cfgs (dats m ρ) () 0 c fun w s t =>
    mayWait_stage c _ (kindOf_none (by fin_cases w <;> fin_cases s <;> decide +kernel)) _ (by
      rcases t with ⟨_ | _, ht⟩
      · exact Or.inl rfl
      · exact Or.inr rfl)

/-! ## The run -/

/-- The contents of the arrays after the launch. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero semaphores every weakly fair execution on the four devices ends, in a state with the arrays at the
computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Attn

end
-- ==== Proof.Frames.lean ====
/-
The kernel's run, read at its arguments and at its result: the arguments end as they were, the result holds the projected
attention of all the devices.
-/
module

public import proofs.«01_k».proof.Proof.Launch
public import proofs.«01_k».proof.Defs
public import proofs.«01_k».proof.Proof.Gen.Kernel

@[expose] public section

noncomputable section

namespace Cert.Attn

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- A run's end: the arguments unchanged, the result computed. -/
def Ends (r : PUnit × MemSt nD τ sig (Elt F)) : Prop := ∀ c : Dev nD,
  (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
  ∧ r.2.mem ((c.tc : Thread nD τ).loc main_v1) = resultOf m c

theorem set_access_unit_zero (b : Ref sig .tc) {off : Fin b.ty.shape.rank → Nat} (h : off = fun _ => 0)
    (inb : ∀ a, off a + b.ty.shape.size a ≤ b.ty.shape.size a) :
    ((Memref.whole b).access (Rect.unit off b.ty.shape.size inb) : View sig .tc _ _ _).set = Finset.univ := by
  subst h; exact Memref.set_access_whole b

/-- The result array after the run: the one copy out covers it. -/
theorem finalA_out (c : Dev nD) : finalA m ρ c (5 : Fin 6) = resultOf m c := by
  refine (dats m ρ 0 c).arrAt_eq_of_cover (5 : Fin 6) (resultOf m c) (fun t _ => ?_) (fun i => ⟨(0 : Fin 1), rfl, ?_⟩)
  · have ht : t = (0 : Fin 1) := Fin.ext (Nat.lt_one_iff.mp (show t.val < 1 from t.isLt))
    subst ht
    show resultOf m c = (win0_5.blk (0 : Fin 1)).view.read (Elt F) (resultOf m c)
    exact (Memref.read_access_unit_zero (Elt F) main_v1 (funext fun a => by fin_cases a <;> rfl) _ (resultOf m c)).symm
  · show i ∈ (win0_5.blk (0 : Fin 1)).view.set
    rw [show (win0_5.blk (0 : Fin 1)).view.set = Finset.univ from
      set_access_unit_zero main_v1 (funext fun a => by fin_cases a <;> rfl) _]
    exact Finset.mem_univ i

theorem ends_of {r : PUnit × MemSt nD τ sig (Elt F)} (h : QC m ρ r) : Ends m r := fun c =>
  ⟨⟨(h c (0 : Fin 6)).trans ((dats (F := F) m ρ 0 c).arrAt_in (0 : Fin 6) rfl _),
    (h c (1 : Fin 6)).trans ((dats (F := F) m ρ 0 c).arrAt_in (1 : Fin 6) rfl _),
    (h c (3 : Fin 6)).trans ((dats (F := F) m ρ 0 c).arrAt_in (3 : Fin 6) rfl _),
    (h c (4 : Fin 6)).trans ((dats (F := F) m ρ 0 c).arrAt_in (4 : Fin 6) rfl _),
    (h c (2 : Fin 6)).trans ((dats (F := F) m ρ 0 c).arrAt_in (2 : Fin 6) rfl _)⟩,
   (h c (5 : Fin 6)).trans (finalA_out m ρ c)⟩

/-- Every run from zero semaphores ends with the arguments unchanged, the result computed and the semaphores at zero. -/
theorem run_ends : θ_run defs (onTc (τ := τ) (main (F := F))) (s₀ m ρ) (fun r => Ends m r ∧ r.2.sem = fun _ => 0) :=
  (θ_run defs _ _).mono (fun _ h => ⟨ends_of m ρ h.1, h.2⟩) (run_main m ρ)

/-- The kernel's frame over the extended reals. -/
theorem frame_ideal : Cert.quiescent_KernelIdeal := fun m ρ _ =>
  (θ_run Cert.KernelIdeal.defs _ _).mono (fun _ h => ⟨fun c => (h.1 c).1, h.2⟩) (run_ends (F := Ideal) m ρ)

set_option maxRecDepth 100000 in
/-- The two printings of the program have one body, -/
theorem body_eq : @Cert.Kernel.cc0_body Bits _ _ = @Cert.KernelIdeal.cc0_body Bits _ _ := rfl

set_option maxRecDepth 100000 in
theorem defs₀_eq : @Cert.Kernel.defs₀ Bits _ _ = @Cert.KernelIdeal.defs₀ Bits _ _ := by
  unfold Cert.Kernel.defs₀ Cert.KernelIdeal.defs₀
  refine congrArg (Defs.onTc (nD := nD) (τ := τ) (sig := sig) (Λ := Λ₀)) (funext fun i => funext fun x => ?_)
  have hi : i = 0 := Subsingleton.elim _ _
  subst hi
  exact rfl

/-- and one table of bodies. -/
theorem defs_eq : Cert.Kernel.defs (F := Bits) = Cert.KernelIdeal.defs (F := Bits) :=
  congrArg (Pipeline.defs Cert.KernelIdeal.pcfgs) defs₀_eq

/-- The kernel's frame over the machine's floats. -/
theorem frame_kernel : Cert.quiescent_Kernel := by
  unfold Cert.quiescent_Kernel
  rw [defs_eq]
  exact fun m ρ _ => (θ_run Cert.KernelIdeal.defs _ _).mono (fun _ h => ⟨fun c => (h.1 c).1, h.2⟩) (run_ends (F := Bits) m ρ)

end Cert.Attn

end
-- ==== Proof.Softmax.lean ====
/-
The extended-real arithmetic of one attention head: a softmax of finite scores taken with and without the row's maximum
subtracted, and sums multiplied by numbers.
-/
module

public import Idealize.ShloMosaic.Lib.Pointwise

@[expose] public section

noncomputable section

namespace Cert.Attn

open Idealize.ShloMosaic

/-- An extended real that is a number. -/
def Finite (x : EReal) : Prop := ∃ r : ℝ, x = (r : EReal)

theorem finite_of_ne {x : EReal} (h : x ≠ ⊤) (h' : x ≠ ⊥) : Finite x := ⟨x.toReal, (EReal.coe_toReal h h').symm⟩

theorem Finite.mul {x y : EReal} : Finite x → Finite y → Finite (x * y) := by
  rintro ⟨a, rfl⟩ ⟨b, rfl⟩; exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem finite_sum {ι : Type} (s : Finset ι) (f : ι → EReal) (h : ∀ i, Finite (f i)) : Finite (∑ i ∈ s, f i) := by
  choose g hg using h
  exact ⟨∑ i ∈ s, g i, by rw [coe_sum]; exact Finset.sum_congr rfl fun i _ => hg i⟩

/-- Multiplying by a number that is not negative goes under a sum, whatever the summands. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc) (EReal.coe_ne_top c), ih]

/-- The maximum of finitely many numbers, at least one, starting from −∞, is a number. -/
theorem finite_fold_max {n : ℕ} (f : Fin (n + 1) → EReal) (h : ∀ i, Finite (f i)) : Finite (Finset.univ.fold max ⊥ f) := by
  refine finite_of_ne (ne_of_lt ?_) (ne_of_gt ?_)
  · rw [Finset.fold_max_lt]
    exact ⟨bot_lt_top, fun i _ => by obtain ⟨r, hr⟩ := h i; rw [hr]; exact EReal.coe_lt_top r⟩
  · rw [Finset.lt_fold_max]
    exact Or.inr ⟨0, Finset.mem_univ _, by obtain ⟨r, hr⟩ := h 0; rw [hr]; exact EReal.bot_lt_coe r⟩

/-- Attention of one query to `n + 1` keys with finite scores `s` and values `v`: the sum of the values weighted by
    `exp s / ∑ exp s` is the sum of the values weighted by `exp (s - m)`, divided by the sum of these, `m` the largest
    score; the two terms that a running maximum started at −∞ adds are zero. -/
theorem softmax_eq {n : ℕ} {z : EReal} (hz : z = ⊥) (s v : Fin (n + 1) → EReal) (hs : ∀ j, Finite (s j)) :
    ∑ j, Ideal.div (Ideal.exp (s j)) (∑ i, Ideal.exp (s i)) * v j
      = Ideal.div
          (0 * Ideal.exp (z - max z (Finset.univ.fold max z s)) + ∑ j, v j * Ideal.exp (s j - max z (Finset.univ.fold max z s)))
          (0 * Ideal.exp (z - max z (Finset.univ.fold max z s)) + ∑ j, Ideal.exp (s j - max z (Finset.univ.fold max z s))) := by
  subst hz
  obtain ⟨M, hM⟩ := finite_fold_max s hs
  choose r hr using hs
  have hE : ∀ j, Ideal.exp (s j) = ((Real.exp (r j) : ℝ) : EReal) := fun j => by rw [hr j]; rfl
  have hD : ∀ j, Ideal.exp (s j - (M : EReal)) = ((Real.exp (r j) * Real.exp (-M) : ℝ) : EReal) := fun j => by
    rw [hr j, ← EReal.coe_sub, ← Real.exp_add, ← sub_eq_add_neg]; rfl
  have hZ : 0 < ∑ i, Real.exp (r i) := Finset.sum_pos (fun i _ => Real.exp_pos _) ⟨0, Finset.mem_univ _⟩
  have hM' : 0 < Real.exp (-M) := Real.exp_pos _
  have hW : ∑ i, Real.exp (r i) * Real.exp (-M) ≠ 0 := by rw [← Finset.sum_mul]; positivity
  have hW' : 0 ≤ 1 / ∑ i, Real.exp (r i) * Real.exp (-M) := by rw [← Finset.sum_mul]; positivity
  rw [hM, max_eq_right bot_le]
  simp only [hE, hD, zero_mul, zero_add, ← coe_sum, Ideal.div_coe hZ.ne', Ideal.div_coe hW]
  rw [sum_mul_coe _ _ hW']
  refine Finset.sum_congr rfl fun j _ => ?_
  rw [mul_assoc (v j), ← EReal.coe_mul, ← EReal.coe_mul, mul_comm (v j)]
  congr 2
  rw [← Finset.sum_mul]
  field_simp

/-! ## One head -/

/-- A row of the input times a column of weights. -/
def proj (x : Fin 128 → Fin 512 → EReal) (w : Fin 512 → EReal) (r : Fin 128) : EReal := ∑ k, x r k * w k

/-- The score of query row `r` and key row `j` for a head of query columns `wq` and key columns `wk`. -/
def dotScore (x : Fin 128 → Fin 512 → EReal) (wq wk : Fin 64 → Fin 512 → EReal) (r j : Fin 128) : EReal :=
  (∑ d, proj x (wq d) r * proj x (wk d) j) * Ideal.ofBits .f32 0x3E000000#32

/-- One column of a head's result at query row `r`: the softmax of the row's scores times the column's values. -/
def attend (x : Fin 128 → Fin 512 → EReal) (wq wk : Fin 64 → Fin 512 → EReal) (wv : Fin 512 → EReal) (r : Fin 128) : EReal :=
  ∑ j, Ideal.div (Ideal.exp (dotScore x wq wk r j)) (∑ i, Ideal.exp (dotScore x wq wk r i)) * proj x wv j

/-- The pattern of −∞ is −∞. -/
theorem negInf : Ideal.ofBits .f32 0xFF800000#32 = ⊥ := by
  show Ideal.ieee 8 23 (0xFF800000#32) = ⊥
  unfold Ideal.ieee
  rw [if_pos (by decide), if_pos (by decide), if_pos (by decide)]

/-- The pattern of +∞ is +∞. -/
theorem posInf : Ideal.ofBits .f32 0x7F800000#32 = ⊤ := by
  show Ideal.ieee 8 23 (0x7F800000#32) = ⊤
  unfold Ideal.ieee
  rw [if_pos (by decide), if_pos (by decide), if_neg (by decide)]

/-- The factor of the scores, an eighth, is a number. -/
theorem finite_eighth : Finite (Ideal.ofBits .f32 0x3E000000#32) := ⟨_, rfl⟩

/-- Scores of numbers are numbers. -/
theorem finite_dotScore {x : Fin 128 → Fin 512 → EReal} {wq wk : Fin 64 → Fin 512 → EReal} (hx : ∀ r k, Finite (x r k))
    (hq : ∀ d k, Finite (wq d k)) (hk : ∀ d k, Finite (wk d k)) (r j : Fin 128) : Finite (dotScore x wq wk r j) :=
  (finite_sum _ _ fun d => (finite_sum _ _ fun k => (hx r k).mul (hq d k)).mul (finite_sum _ _ fun k => (hx j k).mul (hk d k))).mul finite_eighth

end Cert.Attn

end
-- ==== Proof.Device.lean ====
/-
What one device computes at an index, over the extended reals.
-/
module

public import proofs.«01_k».proof.Proof.Softmax
public import proofs.«01_k».proof.Proof.Values

@[expose] public section

set_option maxRecDepth 16384

noncomputable section

namespace Cert.Attn

open Cert.KernelIdeal Cert.KernelIdeal.Gen
open Idealize.ShloMosaic
open Idealize.ShloMosaic.TcCoe

section Reads
variable (x : FVec Ideal S2x128x512 .f32) (w : FVec Ideal S512x512 .f32)

/-- The queries: a row of the input times a column of the weights. -/
theorem queries_at (b : Fin 2) (r : Fin 128) (n : Fin 512) (R : Fin 256) (hR : R.val = b.val * 128 + r.val) :
    k0_pay2 (F := Ideal) x w (ix2 R n) = proj (fun r k => x (ix3 b r k)) (fun k => w (ix2 k n)) r := by
  pointwise [k0_pay2, k0_pay1]
  refine Finset.sum_congr rfl fun k _ => congrArg (· * _) (congrArg x ?_)
  congr 1 <;> exact Fin.ext (by simp only [hR]; omega)

/-- The keys and the values are computed the same way. -/
theorem keys_at (b : Fin 2) (r : Fin 128) (n : Fin 512) (R : Fin 256) (hR : R.val = b.val * 128 + r.val) :
    k0_pay3 (F := Ideal) x w (ix2 R n) = proj (fun r k => x (ix3 b r k)) (fun k => w (ix2 k n)) r :=
  queries_at x w b r n R hR

theorem values_at (b : Fin 2) (r : Fin 128) (n : Fin 512) (R : Fin 256) (hR : R.val = b.val * 128 + r.val) :
    k0_pay4 (F := Ideal) x w (ix2 R n) = proj (fun r k => x (ix3 b r k)) (fun k => w (ix2 k n)) r :=
  queries_at x w b r n R hR

end Reads

/-- The score buffer's row `r` of head `i` is that head's row. -/
theorem scores_at (q k : FVec Ideal S256x512 .f32) (i : Fin 16) (r j : Fin 128) (R : Fin 2048) (hR : R.val = i.val * 128 + r.val) :
    scores q k (ix2 R j) = score q k i (ix2 r j) := by
  have h1 : (⟨R.val / 128, Nat.div_lt_of_lt_mul R.isLt⟩ : Fin 16) = i := Fin.ext (by simp only [hR]; omega)
  have h2 : (⟨R.val % 128, Nat.mod_lt _ (by decide)⟩ : Fin 128) = r := Fin.ext (by simp only [hR]; omega)
  show score q k ⟨R.val / 128, _⟩ (ix2 (⟨R.val % 128, _⟩ : Fin 128) j) = _
  rw [h1, h2]

section Device
variable (x : FVec Ideal S2x128x512 .f32) (wq wo wk wv : FVec Ideal S512x512 .f32)

/-- Head `h` of batch `b`: its query and its key columns. -/
def columns (w : FVec Ideal S512x512 .f32) (h : Fin 8) : Fin 64 → Fin 512 → EReal := fun d k =>
  w (ix2 k (⟨h.val * 64 + d.val, by omega⟩ : Fin 512))

theorem deviceScore_at (b : Fin 2) (h : Fin 8) (r j : Fin 128) (i : Fin 16) (hi : i.val = b.val * 8 + h.val) :
    score (k0_pay2 (F := Ideal) x wq) (k0_pay3 x wk) i (ix2 r j)
      = dotScore (fun r k => x (ix3 b r k)) (columns wq h) (columns wk h) r j := by
  pointwise [score]
  have e : ∀ d : Fin 64, i.val % 8 * 64 + d.val = h.val * 64 + d.val := fun d => by omega
  refine congrArg (· * _) (Finset.sum_congr rfl fun d _ => ?_)
  rw [queries_at x wq b r _ _ (by simp only [hi]; omega), keys_at x wk b j _ _ (by simp only [hi]; omega)]
  simp only [e]; rfl

theorem weights_at (b : Fin 2) (h : Fin 8) (r j : Fin 128) (R : Fin 2048) (hR : R.val = b.val * 1024 + h.val * 128 + r.val) :
    weights (F := Ideal) x wq wk (ix2 R j)
      = Ideal.div (Ideal.exp (dotScore (fun r k => x (ix3 b r k)) (columns wq h) (columns wk h) r j))
          (∑ i, Ideal.exp (dotScore (fun r k => x (ix3 b r k)) (columns wq h) (columns wk h) r i)) := by
  have e : ∀ j : Fin 128, scores (k0_pay2 (F := Ideal) x wq) (k0_pay3 x wk) (ix2 R j)
      = dotScore (fun r k => x (ix3 b r k)) (columns wq h) (columns wk h) r j := fun j =>
    (scores_at _ _ ⟨b.val * 8 + h.val, by omega⟩ r j R (by simp only [hR]; omega)).trans (deviceScore_at x wq wk b h r j _ rfl)
  unfold weights
  pointwise [k0_pay25]
  simp only [e]

/-- Column `d` of head `h`, in row `r` of block `g`. -/
theorem head_at (g : Fin 4) (h : Fin 8) (r d : Fin 64) :
    head (F := Ideal) (weights x wq wk) (k0_pay4 x wv) g h (ix2 r d)
      = attend (fun r k => x (ix3 (⟨g.val / 2, by omega⟩ : Fin 2) r k)) (columns wq h) (columns wk h) (columns wv h d)
          (⟨g.val % 2 * 64 + r.val, by omega⟩ : Fin 128) := by
  pointwise [head]
  refine Finset.sum_congr rfl fun j _ => ?_
  rw [weights_at x wq wk ⟨g.val / 2, by omega⟩ h ⟨g.val % 2 * 64 + r.val, by omega⟩ j _ (by simp only []; omega),
    values_at x wv ⟨g.val / 2, by omega⟩ j _ _ (by simp only [])]
  rfl

/-- What a device contributes to the result at row `r` of batch `b`: its own heads' columns times its output weights. -/
def part (b : Fin 2) (r : Fin 128) (o : Fin 512) : EReal :=
  ∑ n : Fin 512, attend (fun r k => x (ix3 b r k))
    (columns wq ⟨n.val / 64, by omega⟩) (columns wk ⟨n.val / 64, by omega⟩) (fun k => wv (ix2 k n)) r * wo (ix2 n o)

/-- Its block `g` at an index. -/
theorem own_at (g : Fin 4) (r : Fin 64) (o : Fin 512) :
    own (F := Ideal) x wq wo wk wv g (ix2 r o)
      = part x wq wo wk wv (⟨g.val / 2, by omega⟩ : Fin 2) (⟨g.val % 2 * 64 + r.val, by omega⟩ : Fin 128) o := by
  unfold own
  pointwise [block]
  refine Finset.sum_congr rfl fun n _ => congrArg (· * _) ?_
  have key : ∀ (h : Fin 8) (d : Fin 64), n.val = h.val * 64 + d.val →
      head (F := Ideal) (weights x wq wk) (k0_pay4 x wv) g h (ix2 r d)
        = attend (fun r k => x (ix3 (⟨g.val / 2, by omega⟩ : Fin 2) r k)) (columns wq ⟨n.val / 64, by omega⟩)
            (columns wk ⟨n.val / 64, by omega⟩) (fun k => wv (ix2 k n)) (⟨g.val % 2 * 64 + r.val, by omega⟩ : Fin 128) := by
    intro h d hn
    have h1 : (⟨n.val / 64, by omega⟩ : Fin 8) = h := Fin.ext (by simp only [hn]; omega)
    have h2 : n = (⟨h.val * 64 + d.val, by omega⟩ : Fin 512) := Fin.ext hn
    rw [head_at, h1]
    unfold columns
    rw [← h2]
  split_ifs <;> exact key _ _ (by simp only []; omega)

end Device

end Cert.Attn

end
-- ==== Proof.Reference.lean ====
/-
The reference's result at an index, over the extended reals and for finite inputs to the scores: the sum over all heads'
columns of a head's result times the output weights.
-/
module

public import proofs.«01_k».proof.Proof.Softmax
public import Idealize.ShloMosaic.Lib.Tactic.CleanTypes
public import proofs.«01_k».proof.Proof.Gen.ReferenceIdeal.Run

@[expose] public section

set_option maxRecDepth 16384

noncomputable section

namespace Cert.Attn

open Cert.ReferenceIdeal Cert.ReferenceIdeal.Gen
open Idealize.ShloMosaic
open Idealize.ShloMosaic.TcCoe

/-- The whole attention layer at an index, from the whole arrays. -/
def layer (x : FVec Ideal S2x128x512 .f32) (wq wk wv : FVec Ideal S512x2048 .f32) (wo : FVec Ideal S2048x512 .f32)
    (b : Fin 2) (r : Fin 128) (o : Fin 512) : EReal :=
  ∑ n : Fin 2048, attend (fun r k => x (ix3 b r k))
    (fun d k => wq (ix2 k (⟨n.val / 64 * 64 + d.val, by omega⟩ : Fin 2048)))
    (fun d k => wk (ix2 k (⟨n.val / 64 * 64 + d.val, by omega⟩ : Fin 2048)))
    (fun k => wv (ix2 k n)) r * wo (ix2 n o)

attribute [local irreducible] Ideal.ofBits in
/-- The reference computes it. -/
theorem reference_at (m : (ℓ : Loc nD τ sig) → Buf (Elt Ideal) ℓ)
    (hx : ∀ b r k, Finite (m ((0 : Dev nD).tc.loc main_arg0) (ix3 b r k)))
    (hq : ∀ k n, Finite (m ((0 : Dev nD).tc.loc main_arg1) (ix2 k n)))
    (hk : ∀ k n, Finite (m ((0 : Dev nD).tc.loc main_arg2) (ix2 k n))) (b : Fin 2) (r : Fin 128) (o : Fin 512) :
    Cert.ReferenceIdeal.Value.res_main_v34 (F := Ideal) m 0 (ix3 b r o)
      = layer (m ((0 : Dev nD).tc.loc main_arg0)) (m ((0 : Dev nD).tc.loc main_arg1)) (m ((0 : Dev nD).tc.loc main_arg2))
          (m ((0 : Dev nD).tc.loc main_arg3)) (m ((0 : Dev nD).tc.loc main_arg4)) b r o := by
  unfold Cert.ReferenceIdeal.Value.res_main_v34
  clean_types
  pointwise
  unfold layer attend dotScore proj
  refine Finset.sum_congr rfl fun n _ => congrArg₂ (· * ·) (softmax_eq negInf _ _ fun j => ?_).symm rfl
  exact finite_dotScore (fun r k => hx b r k) (fun d k => hq k _) (fun d k => hk k _) r j

end Cert.Attn

end
-- ==== Proof.Precondition.lean ====
/-
The precondition read back: `x`, `Wq` and `Wk` hold numbers.
-/
module

public import proofs.«01_k».proof.Proof.Softmax
public import proofs.«01_k».proof.Defs
public import Idealize.ShloMosaic.Lib.ReduceAll

@[expose] public section

set_option maxRecDepth 16384

noncomputable section

namespace Cert.Attn

open Idealize.ShloMosaic
open Idealize.ShloMosaic.TcCoe

instance factsDevice : Cert.Pre_scores_finite_KernelIdeal.Facts where
  bcast_S_S2x128x512 := by decide
  reducesTo_S2x128x512_S_d0_1_2 := by decide
  h_S_ := by decide
  bcast_S_S512x512 := by decide
  reducesTo_S512x512_S_d0_1 := by decide

instance factsWhole : Cert.Pre_scores_finite_ReferenceIdeal.Facts where
  bcast_S_S2x128x512 := by decide
  reducesTo_S2x128x512_S_d0_1_2 := by decide
  h_S_ := by decide
  bcast_S_S512x2048 := by decide
  reducesTo_S512x2048_S_d0_1 := by decide

/-- An extended real whose absolute value is below +∞ is a number. -/
theorem finite_of_abs {x : EReal} (h : Ideal.cmp .olt (FloatOps.hostAbsf (F := Ideal) (φ := .f32) x) (Ideal.ofBits .f32 0x7F800000#32) = 1#1) : Finite x := by
  rw [posInf] at h
  by_cases hlt : max x (-x) < (⊤ : EReal)
  · obtain ⟨h1, h2⟩ := max_lt_iff.mp hlt
    exact finite_of_ne h1.ne fun e => by rw [e, EReal.neg_bot] at h2; exact lt_irrefl _ h2
  · exact absurd h (by show ¬ BitVec.ofBool (decide (max x (-x) < ⊤)) = 1#1; rw [decide_eq_false hlt]; decide)

section
open Cert.Pre_scores_finite_KernelIdeal

/-- Where the precondition holds of a device's blocks, its `x`, `Wq` and `Wk` hold numbers. -/
theorem finite_blocks (x : FVec Ideal S2x128x512 .f32) (wq wk wv wo : FVec Ideal S512x512 .f32)
    (h : fn (F := Ideal) x wq wk wv wo = fun _ => 1#1) :
    (∀ i, Finite (x i)) ∧ (∀ i, Finite (wq i)) ∧ ∀ i, Finite (wk i) := by
  haveI : Subsingleton S_.Idx := ⟨fun a b => funext fun i => i.elim0⟩
  have h0 := congrFun h ix0
  obtain ⟨h1, hk⟩ := IntOp.andi_eq_one.1 h0
  obtain ⟨hx, hq⟩ := IntOp.andi_eq_one.1 h1
  exact ⟨fun i => finite_of_abs (Host.reduce_andi_all _ _ _ _ _ hx i), fun i => finite_of_abs (Host.reduce_andi_all _ _ _ _ _ hq i),
    fun i => finite_of_abs (Host.reduce_andi_all _ _ _ _ _ hk i)⟩

end

end Cert.Attn

end
-- ==== Proof.Value.lean ====
/-
The value claim: every device's result is the whole attention layer, the sum over the four devices of what each contributes.
-/
module

public import proofs.«01_k».proof.Proof.Device
public import proofs.«01_k».proof.Proof.Reference
public import proofs.«01_k».proof.Proof.Precondition
public import proofs.«01_k».proof.Proof.Frames
public import Idealize.ShloMosaic.Lib.Layout

@[expose] public section

set_option maxRecDepth 16384

noncomputable section

namespace Cert.Attn

open Cert.KernelIdeal Cert.KernelIdeal.Gen
open Idealize.ShloMosaic
open Idealize.ShloMosaic.TcCoe
open Idealize.SL.Sem

/-- A sum over the four devices is one's own term and those of the three others, in whatever order the ring gives them. -/
theorem sum_devices (f : Fin 4 → EReal) (c : Dev nD) : f c + f (peer c 0) + f (peer c 1) + f (peer c 2) = ∑ d, f d := by
  rw [Fin.sum_univ_four]
  have h : ∀ c : Fin 4, c = 0 ∨ c = 1 ∨ c = 2 ∨ c = 3 := by decide
  rcases h c with rfl | rfl | rfl | rfl <;> [
    show f 0 + f 1 + f 2 + f 3 = _; show f 1 + f 2 + f 3 + f 0 = _; show f 2 + f 3 + f 0 + f 1 = _; show f 3 + f 0 + f 1 + f 2 = _] <;> ac_rfl

/-- A sum over all 2048 columns is the sum over the devices of the sums over each one's 512. -/
theorem sum_columns (f : Fin 2048 → EReal) : ∑ n, f n = ∑ d : Fin 4, ∑ n : Fin 512, f ⟨d.val * 512 + n.val, by omega⟩ := by
  rw [← Fintype.sum_prod_type' (f := fun (d : Fin 4) (n : Fin 512) => f ⟨d.val * 512 + n.val, by omega⟩)]
  refine (Fintype.sum_equiv (finProdFinEquiv (m := 4) (n := 512)) _ _ fun p => congrArg f (Fin.ext ?_)).symm
  simp only [finProdFinEquiv_apply_val]; omega

section Kernel
variable (x : Dev nD → FVec Ideal S2x128x512 .f32) (wq wo wk wv : Dev nD → FVec Ideal S512x512 .f32)

/-- What a device receives in slot `s`: the contribution of the device `s + 1` places on. -/
theorem received_at (c : Dev nD) (s : Fin 3) (g : Fin 4) (r : Fin 64) (o : Fin 512) :
    rM.view.readAt (Elt Ideal) (rectR s g).toLoadRect (landed (sends (F := Ideal) x wq wo wk wv) c) (ix4 0 0 r o)
      = own (F := Ideal) (x (peer c s)) (wq (peer c s)) (wo (peer c s)) (wk (peer c s)) (wv (peer c s)) g (ix2 r o) := by
  show landed (sends (F := Ideal) x wq wo wk wv) c ((rectR s g).emb (ix4 0 0 r o)) = _
  rw [emb_rectR]
  show sent (own (F := Ideal) (x (peer c s)) (wq (peer c s)) (wo (peer c s)) (wk (peer c s)) (wv (peer c s)) g) (ix3 0 r o) = _
  pointwise [sent]

/-- The result on device `c` is the sum of what the devices contribute. -/
theorem result_at (c : Dev nD) (b : Fin 2) (r : Fin 128) (o : Fin 512) :
    result (F := Ideal) x wq wo wk wv c (ix3 b r o) = ∑ d : Fin 4, part (x d) (wq d) (wo d) (wk d) (wv d) b r o := by
  have key : ∀ (g : Fin 4) (t : Fin 64), g.val = b.val * 2 + r.val / 64 → t.val = r.val % 64 → ∀ d : Dev nD,
      own (F := Ideal) (x d) (wq d) (wo d) (wk d) (wv d) g (ix2 t o) = part (x d) (wq d) (wo d) (wk d) (wv d) b r o := by
    intro g t hg ht d
    rw [own_at]
    congr 1 <;> exact Fin.ext (by simp only [hg, ht]; omega)
  have total : ∀ (g : Fin 4) (t : Fin 64), g.val = b.val * 2 + r.val / 64 → t.val = r.val % 64 →
      k0_pay48 (F := Ideal) (own (F := Ideal) (x c) (wq c) (wo c) (wk c) (wv c) g)
          (rM.view.readAt (Elt Ideal) (rectR 0 g).toLoadRect (landed (sends (F := Ideal) x wq wo wk wv) c))
          (rM.view.readAt (Elt Ideal) (rectR 1 g).toLoadRect (landed (sends (F := Ideal) x wq wo wk wv) c))
          (rM.view.readAt (Elt Ideal) (rectR 2 g).toLoadRect (landed (sends (F := Ideal) x wq wo wk wv) c)) (ix3 0 t o)
        = ∑ d : Fin 4, part (x d) (wq d) (wo d) (wk d) (wv d) b r o := by
    intro g t hg ht
    rw [← sum_devices _ c]
    pointwise [k0_pay48]
    rw [received_at, received_at, received_at, key g t hg ht, key g t hg ht, key g t hg ht, key g t hg ht]
  exact total ⟨b.val * 2 + r.val / 64, by omega⟩ ⟨r.val % 64, by omega⟩ rfl rfl

end Kernel

section Whole
variable (x : FVec Ideal S2x128x512 .f32) (wq wk wv : FVec Ideal Cert.ReferenceIdeal.S512x2048 .f32)
  (wo : FVec Ideal Cert.ReferenceIdeal.S2048x512 .f32)

/-- Device `d`'s columns of a weight, -/
def cols (w : FVec Ideal Cert.ReferenceIdeal.S512x2048 .f32) (d : Fin 4) : FVec Ideal S512x512 .f32 :=
  Layout.block ⟨2, ![512, 512]⟩ ⟨2, ![512, 2048]⟩ 1 4 d w
/-- and its rows of the output weight. -/
def rows (w : FVec Ideal Cert.ReferenceIdeal.S2048x512 .f32) (d : Fin 4) : FVec Ideal S512x512 .f32 :=
  Layout.block ⟨2, ![512, 512]⟩ ⟨2, ![2048, 512]⟩ 0 4 d w

theorem cols_at (w : FVec Ideal Cert.ReferenceIdeal.S512x2048 .f32) (d : Fin 4) (k n : Fin 512) :
    cols w d (ix2 k n) = w (ix2 k (⟨d.val * 512 + n.val, by omega⟩ : Fin 2048)) := by
  refine congrArg w (funext fun a => Fin.ext ?_)
  rw [Layout.Tiles.idx_val]
  fin_cases a <;> rfl

theorem rows_at (w : FVec Ideal Cert.ReferenceIdeal.S2048x512 .f32) (d : Fin 4) (n k : Fin 512) :
    rows w d (ix2 n k) = w (ix2 (⟨d.val * 512 + n.val, by omega⟩ : Fin 2048) k) := by
  refine congrArg w (funext fun a => Fin.ext ?_)
  rw [Layout.Tiles.idx_val]
  fin_cases a <;> rfl

/-- A weight whose columns on every device are numbers holds numbers. -/
theorem finite_whole (w : FVec Ideal Cert.ReferenceIdeal.S512x2048 .f32) (h : ∀ d i, Finite (cols w d i)) (k : Fin 512) (n : Fin 2048) :
    Finite (w (ix2 k n)) := by
  have e := h ⟨n.val / 512, by omega⟩ (ix2 k ⟨n.val % 512, by omega⟩)
  rw [cols_at] at e
  have hn : n = (⟨n.val / 512 * 512 + n.val % 512, by omega⟩ : Fin 2048) := Fin.ext (by simp only []; omega)
  rw [hn]; exact e

/-- The devices' contributions add up to the layer. -/
theorem layer_eq (b : Fin 2) (r : Fin 128) (o : Fin 512) :
    layer x wq wk wv wo b r o = ∑ d : Fin 4, part x (cols wq d) (rows wo d) (cols wk d) (cols wv d) b r o := by
  unfold layer part columns
  rw [sum_columns]
  refine Finset.sum_congr rfl fun d _ => Finset.sum_congr rfl fun n _ => ?_
  simp only [cols_at, rows_at]
  have e : ∀ i : Fin 64, (d.val * 512 + n.val) / 64 * 64 + i.val = d.val * 512 + (n.val / 64 * 64 + i.val) := fun i => by omega
  simp only [e]

end Whole

/-- Over the extended reals, where `x`, `Wq` and `Wk` hold numbers, every device's result is the reference's. -/
theorem value : Cert.algebraic_KernelIdeal_ReferenceIdeal_pre_scores_finite_KernelIdeal := by
  intro m g m' g' hpre hargs
  have hres : ∀ c : Dev nD, resultOf (F := Ideal) m c = Cert.ReferenceIdeal.Value.res_main_v34 (F := Ideal) m' 0 := by
    intro c
    obtain ⟨hX, hQ, hK, hV, hO⟩ : argX m = (fun _ => m' ((0 : Dev Cert.ReferenceIdeal.nD).tc.loc Cert.ReferenceIdeal.main_arg0))
        ∧ argQ m = cols (m' ((0 : Dev Cert.ReferenceIdeal.nD).tc.loc Cert.ReferenceIdeal.main_arg1))
        ∧ argK m = cols (m' ((0 : Dev Cert.ReferenceIdeal.nD).tc.loc Cert.ReferenceIdeal.main_arg2))
        ∧ argV m = cols (m' ((0 : Dev Cert.ReferenceIdeal.nD).tc.loc Cert.ReferenceIdeal.main_arg3))
        ∧ argO m = rows (m' ((0 : Dev Cert.ReferenceIdeal.nD).tc.loc Cert.ReferenceIdeal.main_arg4)) :=
      ⟨funext fun d => (hargs d).1, funext fun d => (hargs d).2.1, funext fun d => (hargs d).2.2.1, funext fun d => (hargs d).2.2.2.1,
        funext fun d => (hargs d).2.2.2.2⟩
    have fin : ∀ d : Dev nD, (∀ i, Finite (argX m d i)) ∧ (∀ i, Finite (argQ m d i)) ∧ ∀ i, Finite (argK m d i) :=
      fun d => finite_blocks _ _ _ _ _ (hpre d)
    rw [hX, hQ, hK] at fin
    refine funext fun i => ?_
    obtain ⟨b, r, o, rfl⟩ : ∃ (b : Fin 2) (r : Fin 128) (o : Fin 512), i = (ix3 b r o : S2x128x512.Idx) := ⟨_, _, _, eq_ix3 i⟩
    unfold resultOf
    rw [hX, hQ, hK, hV, hO]
    exact (result_at _ _ _ _ _ c b r o).trans ((layer_eq _ _ _ _ _ b r o).symm.trans
      (reference_at m' (fun b r k => (fin 0).1 _) (finite_whole _ fun d => (fin d).2.1) (finite_whole _ fun d => (fin d).2.2) b r o).symm)
  refine ⟨Cert.ReferenceIdeal.Value.res_main_v34 (F := Ideal) m' 0, ?_, ?_⟩
  · exact (θ_run Cert.KernelIdeal.defs _ _).mono (fun _ h c => ⟨(h.1 c).2.trans (hres c), (h.1 c).1⟩) (run_ends (F := Ideal) m g)
  · exact (θ_run Cert.ReferenceIdeal.defs _ _).mono (fun _ h => h 0) (Cert.ReferenceIdeal.Value.run (F := Ideal) m' g')

end Cert.Attn

end
-- ==== Proof.lean ====
/-
The claims put together: the frames of the kernel, of the idealized kernel and of the reference, and the kernel's value against
the reference's.
-/
module

public import proofs.«01_k».proof.Defs
public import proofs.«01_k».proof.Proof.Frames
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem Cert.Kernel

/-- The reference's frame: it has no semaphores. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- All the claims, with the shape facts that the programs and the precondition state. -/
theorem claim : Cert.Claim := ⟨Cert.Kernel.Gen.facts, Cert.KernelIdeal.Gen.facts, Cert.ReferenceIdeal.Gen.facts,
  Cert.Attn.factsDevice, Cert.Attn.factsWhole,
  Cert.Attn.frame_kernel, Cert.Attn.frame_ideal, fun m g _ => Cert.Attn.frame_ideal m g trivial,
  frame_reference, fun m g _ => frame_reference m g trivial, trivial, Cert.Attn.value⟩

end Cert.Proof

end
